-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S8192x1024 : Shape := ⟨2, ![8192, 1024]⟩
abbrev S8192x128 : Shape := ⟨2, ![8192, 128]⟩
abbrev S4096x8192 : Shape := ⟨2, ![4096, 8192]⟩
abbrev S4096x128 : Shape := ⟨2, ![4096, 128]⟩
abbrev S4096x1 : Shape := ⟨2, ![4096, 1]⟩
abbrev S1024x1024 : Shape := ⟨2, ![1024, 1024]⟩
abbrev S1024x128 : Shape := ⟨2, ![1024, 128]⟩
abbrev S1024x1 : Shape := ⟨2, ![1024, 1]⟩
abbrev S8x1024x1024 : Shape := ⟨3, ![8, 1024, 1024]⟩
abbrev S_ : Shape := ⟨0, ![]⟩
abbrev S1024 : Shape := ⟨1, ![1024]⟩
abbrev S1x1024x1024 : Shape := ⟨3, ![1, 1024, 1024]⟩
abbrev S4096 : Shape := ⟨1, ![4096]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S8192x128, .f32⟩
  | .hbm, ⟨3, _⟩ => ⟨S4096x8192, .f32⟩
  | .hbm, ⟨4, _⟩ => ⟨S4096x128, .f32⟩
  | .hbm, ⟨5, _⟩ => ⟨S4096x1, .f32⟩
  | .hbm, ⟨6, _⟩ => ⟨S4096x1, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096, .i32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1024x128, .f32⟩
  | .local _ .vmem, ⟨7, _⟩ => ⟨S1024x128, .f32⟩
  | .local _ .vmem, ⟨8, _⟩ => ⟨S1024x1, .f32⟩
  | .local _ .vmem, ⟨9, _⟩ => ⟨S1024x1, .f32⟩
  | .local _ .vmem, ⟨10, _⟩ => ⟨S1024x1, .i32⟩
  | .local _ .vmem, ⟨11, _⟩ => ⟨S1024x1, .i32⟩
  | .local _ .vmem, ⟨12, _⟩ => ⟨S8x1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .i32⟩
  | .local _ .vmem, ⟨18, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 8], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (i : grid0.Coords) : Fin 2 → Nat :=
  let arg0 : BitVec 32 := BitVec.ofNat 32 (i 0).val
  let c1024_i32 : BitVec 32 := 1024#32
  let v11 : BitVec 32 := Scalar.muli arg0 c1024_i32
  let c0_i32_5 : BitVec 32 := 0#32
  ![v11.toNat, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off2 (i : grid0.Coords) : Fin 3 → Nat :=
  let arg2 : BitVec 32 := BitVec.ofNat 32 (i 2).val
  let v23 : Index := Scalar.indexCast arg2
  let c0_10 : Index := 0#32
  let c0_11 : Index := 0#32
  ![v23.toNat, 0, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_off3 (i : grid0.Coords) : Fin 3 → Nat :=
  let arg2 : BitVec 32 := BitVec.ofNat 32 (i 2).val
  let v14 : Index := Scalar.indexCast arg2
  let c0_6 : Index := 0#32
  let c0_7 : Index := 0#32
  ![v14.toNat, 0, 0]
def k0_cond6 (i : grid0.Coords) : BitVec 1 :=
  let arg2 : BitVec 32 := BitVec.ofNat 32 (i 2).val
  let c7_i32 : BitVec 32 := 7#32
  let v52 : BitVec 1 := Scalar.cmpi .eq arg2 c7_i32
  let v53 : BitVec 32 := Scalar.extui v52
  let c0_i32_30 : BitVec 32 := 0#32
  let v54 : BitVec 1 := Scalar.cmpi .ne v53 c0_i32_30
  v54

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c7_i32 : BitVec 32 := 7#32
  let v1 : BitVec 32 := Scalar.select v0 arg2 c7_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== ReferenceIdeal.lean ====
abbrev S4096x1024 : Shape := ⟨2, ![4096, 1024]⟩
abbrev S8192x1024 : Shape := ⟨2, ![8192, 1024]⟩
abbrev S8192x128 : Shape := ⟨2, ![8192, 128]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S1024x8192 : Shape := ⟨2, ![1024, 8192]⟩
abbrev S4096x8192 : Shape := ⟨2, ![4096, 8192]⟩
abbrev S4096x128 : Shape := ⟨2, ![4096, 128]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S8192x128, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1024x8192, .f32⟩
  | .hbm, ⟨26, _⟩ => ⟨S4096x8192, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x8192, .f32⟩
  | .hbm, ⟨34, _⟩ => ⟨S4096x8192, .f32⟩
  | .hbm, ⟨35, _⟩ => ⟨S4096x8192, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x8192, .f32⟩
  | .hbm, ⟨40, _⟩ => ⟨S4096x8192, .f32⟩
  | .hbm, ⟨41, _⟩ => ⟨S4096x8192, .i32⟩
  | .hbm, ⟨42, _⟩ => ⟨S_, .f32⟩
  | .hbm, ⟨43, _⟩ => ⟨S_, .i32⟩
  | .hbm, ⟨44, _⟩ => ⟨S4096, .f32⟩
  | .hbm, ⟨45, _⟩ => ⟨S4096, .i32⟩
  | .hbm, ⟨46, _⟩ => ⟨S4096x128, .f32⟩
  | .hbm, ⟨47, _⟩ => ⟨S4096x8192, .f32⟩
  | .hbm, ⟨48, _⟩ => ⟨S4096x8192, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call2_v0 : Ref sig .tc := ⟨.hbm, 14, rfl⟩
abbrev main_call2_cst : Ref sig .tc := ⟨.hbm, 15, rfl⟩
abbrev main_call2_v1 : Ref sig .tc := ⟨.hbm, 16, rfl⟩
abbrev main_call2_v2 : Ref sig .tc := ⟨.hbm, 17, rfl⟩
abbrev main_v4 : Ref sig .tc := ⟨.hbm, 18, rfl⟩
abbrev main_cst_0 : Ref sig .tc := ⟨.hbm, 19, rfl⟩
abbrev main_call3_v0 : Ref sig .tc := ⟨.hbm, 20, rfl⟩
abbrev main_call3_v1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call4_v0 : Ref sig .tc := ⟨.hbm, 41, rfl⟩
abbrev main_call4_cst : Ref sig .tc := ⟨.hbm, 42, rfl⟩
abbrev main_call4_c : Ref sig .tc := ⟨.hbm, 43, rfl⟩
abbrev main_call4_v1_0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩

abbrev nD : Nat := 1
abbrev τ : Topo := Topo.v7x

variable {F : FTy → Type} [FloatOps F]
-- ==== Proof.KernelIdealSetup.lean ====
/- The launch's set-up for the kernel: @main around its region, the conditions of the body's branches in closed form over
   the grid points, where the output windows are idle, the scratch buffers, the body's own DMA cell and the operand it
   copies from HBM. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

set_option maxHeartbeats 800000 in
/-- @main is its region followed by the host lines that average the entropies and drop the index array's unit axis. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- The host lines after the region leave `main_arg0` as launched. -/
theorem tail_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## The input windows' staging buffers -/

/-- The prototype block's buffer holds its block at every point, fetched there or not. -/
theorem before_protos {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The action block's buffer holds its block at every point, fetched there or not. -/
theorem before_actions {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the points -/

/-- First tile of the first sweep. -/
abbrev isInit (i : grid0.Coords) : Prop := k0_cond1 i = 1#1
/-- The first sweep over the tiles. -/
abbrev isSweep0 (i : grid0.Coords) : Prop := k0_cond2 i = 1#1
/-- The second sweep over the tiles. -/
abbrev isSweep1 (i : grid0.Coords) : Prop := k0_cond3 i = 1#1
/-- The tile is the first one. -/
abbrev isTile0 (i : grid0.Coords) : Prop := (Scalar.cmpi .ne (Scalar.extui (Scalar.cmpi .eq (BitVec.ofNat 32 (i 2).val) 0#32)) 0#32) = 1#1
/-- The tile is a later one. -/
abbrev isTilePos (i : grid0.Coords) : Prop := (Scalar.cmpi .ne (Scalar.extui (Scalar.cmpi .sgt (BitVec.ofNat 32 (i 2).val) 0#32)) 0#32) = 1#1
/-- The tile is the last one. -/
abbrev isTile7 (i : grid0.Coords) : Prop := k0_cond6 i = 1#1

theorem isInit_iff : ∀ t : Fin cfg0.N, isInit (grid0.coords t) ↔ t.val % 16 = 0 :=
  (by decide +kernel : ∀ t : Fin grid0.N, isInit (grid0.coords t) ↔ t.val % 16 = 0)
theorem isSweep0_iff : ∀ t : Fin cfg0.N, isSweep0 (grid0.coords t) ↔ t.val % 16 < 8 :=
  (by decide +kernel : ∀ t : Fin grid0.N, isSweep0 (grid0.coords t) ↔ t.val % 16 < 8)
theorem isSweep1_iff : ∀ t : Fin cfg0.N, isSweep1 (grid0.coords t) ↔ 8 ≤ t.val % 16 :=
  (by decide +kernel : ∀ t : Fin grid0.N, isSweep1 (grid0.coords t) ↔ 8 ≤ t.val % 16)
theorem isTile0_iff : ∀ t : Fin cfg0.N, isTile0 (grid0.coords t) ↔ t.val % 8 = 0 :=
  (by decide +kernel : ∀ t : Fin grid0.N, isTile0 (grid0.coords t) ↔ t.val % 8 = 0)
theorem isTilePos_iff : ∀ t : Fin cfg0.N, isTilePos (grid0.coords t) ↔ t.val % 8 ≠ 0 :=
  (by decide +kernel : ∀ t : Fin grid0.N, isTilePos (grid0.coords t) ↔ t.val % 8 ≠ 0)
theorem isTile7_iff : ∀ t : Fin cfg0.N, isTile7 (grid0.coords t) ↔ t.val % 8 = 7 :=
  (by decide +kernel : ∀ t : Fin grid0.N, isTile7 (grid0.coords t) ↔ t.val % 8 = 7)

/-- The point's coordinates: row block, sweep, tile. -/
theorem coord0 : ∀ t : Fin cfg0.N, (grid0.coords t 0).val = t.val / 16 := (by decide +kernel : ∀ t : Fin grid0.N, (grid0.coords t 0).val = t.val / 16)
theorem coord2 : ∀ t : Fin cfg0.N, (grid0.coords t 2).val = t.val % 8 := (by decide +kernel : ∀ t : Fin grid0.N, (grid0.coords t 2).val = t.val % 8)

/-! ## Where the output windows are idle -/

theorem idle2 : ∀ t : Fin cfg0.N, t.val % 16 < 8 → cfg0.idle 2 (grid0.coords t) = true := by decide +kernel
theorem keep2 : ∀ t : Fin cfg0.N, t.val % 16 < 8 → (cfg0.win 2).flush t = false := by decide +kernel
theorem live2 : ∀ t : Fin cfg0.N, 8 ≤ t.val % 16 → cfg0.idle 2 (grid0.coords t) = false := by decide +kernel
theorem flush2 : ∀ t : Fin cfg0.N, 8 ≤ t.val % 16 → (cfg0.win 2).flush t = true := by decide +kernel
theorem idle3 : ∀ t : Fin cfg0.N, t.val % 16 ≠ 15 → cfg0.idle 3 (grid0.coords t) = true := by decide +kernel
theorem keep3 : ∀ t : Fin cfg0.N, t.val % 16 ≠ 15 → (cfg0.win 3).flush t = false := by decide +kernel
theorem live3 : ∀ t : Fin cfg0.N, t.val % 16 = 15 → cfg0.idle 3 (grid0.coords t) = false := by decide +kernel
theorem idle4 : ∀ t : Fin cfg0.N, t.val % 16 ≠ 15 → cfg0.idle 4 (grid0.coords t) = true := by decide +kernel
theorem keep4 : ∀ t : Fin cfg0.N, t.val % 16 ≠ 15 → (cfg0.win 4).flush t = false := by decide +kernel
theorem live4 : ∀ t : Fin cfg0.N, t.val % 16 = 15 → cfg0.idle 4 (grid0.coords t) = false := by decide +kernel
theorem idle5 : ∀ t : Fin cfg0.N, t.val % 16 ≠ 15 → cfg0.idle 5 (grid0.coords t) = true := by decide +kernel
theorem keep5 : ∀ t : Fin cfg0.N, t.val % 16 ≠ 15 → (cfg0.win 5).flush t = false := by decide +kernel
theorem live5 : ∀ t : Fin cfg0.N, t.val % 16 = 15 → cfg0.idle 5 (grid0.coords t) = false := by decide +kernel

/-! ## The staging memrefs, the scratch, the DMA cell and the operand left in HBM -/

abbrev ms0 (t : Fin cfg0.N) : Memref sig .tc .vmem S1024x1024 .f32 := win0_0.stage (cfg0.slots t 0)
abbrev ms1 (t : Fin cfg0.N) : Memref sig .tc .vmem S1024x128 .f32 := win0_1.stage (cfg0.slots t 1)
abbrev ms2 (t : Fin cfg0.N) : Memref sig .tc .vmem S1024x1024 .f32 := win0_2.stage (cfg0.slots t 2)
abbrev ms3 (t : Fin cfg0.N) : Memref sig .tc .vmem S1024x128 .f32 := win0_3.stage (cfg0.slots t 3)
abbrev ms4 (t : Fin cfg0.N) : Memref sig .tc .vmem S1024x1 .f32 := win0_4.stage (cfg0.slots t 4)
abbrev ms5 (t : Fin cfg0.N) : Memref sig .tc .vmem S1024x1 .i32 := win0_5.stage (cfg0.slots t 5)

abbrev scE : Memref sig .tc .vmem S8x1024x1024 .f32 := Memref.whole cc0_scratch0
abbrev scHn : Memref sig .tc .vmem S1024x1024 .f32 := Memref.whole cc0_scratch1
abbrev scS : Memref sig .tc .vmem S1024x1 .f32 := Memref.whole cc0_scratch2
abbrev scDot : Memref sig .tc .vmem S1024x1 .f32 := Memref.whole cc0_scratch3
abbrev scM : Memref sig .tc .vmem S1024x1 .f32 := Memref.whole cc0_scratch4
abbrev scAm : Memref sig .tc .vmem S1024x1 .i32 := Memref.whole cc0_scratch5
abbrev scAct : Memref sig .tc .vmem S1024x128 .f32 := Memref.whole cc0_scratch6

/-- The embeddings, left in HBM. -/
abbrev hbm : Memref sig .tc .hbm S4096x1024 .f32 := Memref.whole main_arg0
/-- The contents of a memref's buffer on core `c`, and the buffer held whole at them. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own DMA semaphore. -/
abbrev osem : Fin 1 → SemLoc sig := fun j => (![SemLoc.dma 12] : Fin 1 → SemLoc sig) j
theorem osemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 12) 0) := by
  rw [Pipeline.ownSems0_eq_of_list c osem [0] (by decide) (by decide)]; rfl
/-- The operand the body copies itself. -/
def hbmRefs : Finset (Ref sig .tc) := {main_arg0}
theorem hbmRefs_sub : hbmRefs ⊆ Pipeline.restRefs sig spec0 := by decide
/-- The host lines after the region touch nothing the body copies itself. -/
theorem tail_sub : ∀ ops ∈ ([hostOps1] : List (List (HloOp τ sig (Elt F)))), ∀ op ∈ ops,
    op.bufs ⊆ Pipeline.tailRefsBut sig Pipeline.Prefetch.none spec0 hbmRefs := by
  intro ops hops op hop
  simp only [List.mem_cons, List.mem_nil_iff, or_false] at hops
  rcases hops with rfl
  · refine Pipeline.sub_tailRefsBut Pipeline.Prefetch.none spec0 hbmRefs op ((List.forall_iff_forall_mem.mp hostOps1_sub) op hop) (fun j => j.elim0) ?_
    simp only [hostOps1, List.mem_cons, List.mem_nil_iff, or_false] at hop
    rcases hop with rfl | rfl | rfl | rfl | rfl
    all_goals intro b hb; simp only [hbmRefs, Finset.mem_singleton] at hb
    all_goals rcases hb with rfl <;>
      simp only [StableHlo.nullary_bufs, StableHlo.unary_bufs, StableHlo.binary_bufs, StableHlo.reshape_bufs, Finset.mem_insert, Finset.mem_singleton, not_or] <;> and_intros <;> exact StableHlo.devRef_ne_of_ne (by decide)
theorem hbmPts_eq (c : Dev nD) :
    (bigSep hbmRefs (fun b => ((c : Thread nD τ).loc b) ↦{fullShare} V m c b) : sProp 𝕄) = iprop(hbPt c hbm (V m c main_arg0)) := by
  rw [BI.bigSep_eq_bigSepL_of_eq [main_arg0] (by decide) (by decide)]; rfl

/-- What the launch hands the region: each scratch buffer at some contents, the generator register, the DMA cell at zero
    and the embeddings as launched. -/
theorem PhiD_eq (c : Dev nD) :
    (Pipeline.ΦD osem spec0 hbmRefs (V m) c : sProp 𝕄)
      = iprop(iprop((∃ d, owns (c : Thread nD τ) scE fullShare d) ∗ (∃ d, owns (c : Thread nD τ) scHn fullShare d) ∗ (∃ d, owns (c : Thread nD τ) scS fullShare d) ∗ (∃ d, owns (c : Thread nD τ) scDot fullShare d) ∗ (∃ d, owns (c : Thread nD τ) scM fullShare d) ∗ (∃ d, owns (c : Thread nD τ) scAm fullShare d) ∗ (∃ d, owns (c : Thread nD τ) scAct fullShare d)) ∗ (∃ r, prngReg c r) ∗ iprop(semVal ((c : Thread nD τ), SemLoc.dma 12) 0) ∗ iprop(hbPt c hbm (V m c main_arg0))) := by
  rw [Pipeline.ΦD_eq, scopedRest0_eq, ownSems_eq, hbmPts_eq]; simp only [scE, scHn, scS, scDot, scM, scAm, scAct, owns_whole]; try rfl

end Cert.KernelIdeal.Proof

end
-- ==== Proof.KernelIdealState.lean ====
/- What the scratch buffers hold, and what one grid point makes of them. -/
module

public import proofs.«01_k».proof.Proof.KernelIdealSetup

@[expose] public section

set_option maxRecDepth 16384

noncomputable section

namespace Cert.KernelIdeal.Proof

open Cert.KernelIdeal.Gen
open Idealize.ShloMosaic Idealize.ShloMosaic.TcCoe

variable {F : FTy → Type} [FloatOps F]

/-- The scratch buffers' contents: the exponentials of all eight tiles, the normalised row block, the running sums of
    the exponentials and of exponential times similarity, the running maximum and its index, the running action. -/
structure St (F : FTy → Type) where
  e : Vec F S8x1024x1024 .f32
  hn : Vec F S1024x1024 .f32
  s : Vec F S1024x1 .f32
  dot : Vec F S1024x1 .f32
  m : Vec F S1024x1 .f32
  am : Vec F S1024x1 .i32
  act : Vec F S1024x128 .f32

/-- A row block's first point: the block normalised, the accumulators reset. -/
def start (blk : Vec F S1024x1024 .f32) (st : St F) : St F :=
  { st with hn := k0_pay1 blk, s := k0_pay2, dot := k0_pay3, m := k0_pay4, am := k0_pay5 }

/-- A point of the first sweep: the tile's exponentials stored in its slot, both sums advanced. -/
def sweep0 (i : grid0.Coords) (x0 : Vec F S1024x1024 .f32) (st : St F) : St F :=
  { st with
    e := VecWindow.put st.e ![(i 2).val, 0, 0] S1x1024x1024.size (k0_pay8 x0 st.hn)
    s := k0_pay9 x0 st.hn st.s
    dot := k0_pay10 x0 st.hn st.dot }

/-- The slot bound of the exponentials' buffer. -/
theorem slot_inb (i : grid0.Coords) : ∀ a, (![(i 2).val, 0, 0] : Fin 3 → ℕ) a + S1x1024x1024.size a ≤ S8x1024x1024.size a := by
  have h : (i 2).val < 8 := (i 2).isLt
  intro a
  fin_cases a
  · show (i 2).val + 1 ≤ 8; omega
  · show 0 + 1024 ≤ 1024; omega
  · show 0 + 1024 ≤ 1024; omega

/-- The tile's slot of the exponentials. -/
def slot (i : grid0.Coords) (st : St F) : Vec F S1x1024x1024 .f32 :=
  VecWindow.window st.e ![(i 2).val, 0, 0] S1x1024x1024.size (slot_inb i)

/-- The tile's weights. -/
def wBlk (i : grid0.Coords) (st : St F) : Vec F S1024x1024 .f32 := k0_pay16 st.s (slot i st)

/-- A point of the second sweep, the action being `act` after it. -/
def sweep1 (i : grid0.Coords) (act : Vec F S1024x128 .f32) (st : St F) : St F :=
  { st with
    am := k0_pay18 (BitVec.ofNat 32 (i 2).val) st.s (slot i st) st.m st.am
    m := k0_pay19 st.s (slot i st) st.m
    act := act }

/-- The action after the first tile of the second sweep, and after a later one. -/
def act0 (i : grid0.Coords) (x1 : Vec F S1024x128 .f32) (st : St F) : Vec F S1024x128 .f32 := k0_pay12 (wBlk i st) x1
def actS (i : grid0.Coords) (x1 : Vec F S1024x128 .f32) (st : St F) : Vec F S1024x128 .f32 := k0_pay13 (wBlk i st) x1 st.act

/-- The entropy rows of a row block whose sums are complete. -/
def entRows (st : St F) : Vec F S1024x1 .f32 := k0_pay14 (k0_pay15 st.s) st.s st.dot

end Cert.KernelIdeal.Proof

end
-- ==== Proof.KernelIdealRuns.lean ====
/- The body's triple in each of its five cases, over any whole memrefs: what it holds afterwards, stated with the pure
   step functions of the scratch contents. -/
module

public import proofs.«01_k».proof.Proof.KernelIdealState

@[expose] public section

set_option maxRecDepth 16384

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The scratch memrefs held at given contents. -/
def ownSt (c : Dev nD) (arg10 : Memref sig .tc .vmem S8x1024x1024 .f32) (arg11 : Memref sig .tc .vmem S1024x1024 .f32) (arg12 arg13 arg14 : Memref sig .tc .vmem S1024x1 .f32)
    (arg15 : Memref sig .tc .vmem S1024x1 .i32) (arg16 : Memref sig .tc .vmem S1024x128 .f32) (st : St F) : sProp 𝕄 :=
  iprop(owns (c : Thread nD τ) arg10 fullShare st.e ∗ owns (c : Thread nD τ) arg11 fullShare st.hn ∗ owns (c : Thread nD τ) arg12 fullShare st.s
    ∗ owns (c : Thread nD τ) arg13 fullShare st.dot ∗ owns (c : Thread nD τ) arg14 fullShare st.m ∗ owns (c : Thread nD τ) arg15 fullShare st.am
    ∗ owns (c : Thread nD τ) arg16 fullShare st.act)

/-- The window memrefs held at given contents. -/
def ownWin (c : Dev nD) (arg4 : Memref sig .tc .vmem S1024x1024 .f32) (arg5 : Memref sig .tc .vmem S1024x128 .f32) (arg6 : Memref sig .tc .vmem S1024x1024 .f32)
    (arg7 : Memref sig .tc .vmem S1024x128 .f32) (arg8 : Memref sig .tc .vmem S1024x1 .f32) (arg9 : Memref sig .tc .vmem S1024x1 .i32)
    (x0 : Vec F S1024x1024 .f32) (x1 : Vec F S1024x128 .f32) (x2 : Vec F S1024x1024 .f32) (x3 : Vec F S1024x128 .f32) (x4 : Vec F S1024x1 .f32) (x5 : Vec F S1024x1 .i32) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4 ∗ owns (c : Thread nD τ) arg9 fullShare x5)

/-- The rows of the embeddings that a row block's first point copies in. -/
def rowBlk (c : Dev nD) (i : grid0.Coords) (h : isInit i) (fh : HbBuf (F := F) c hbm) : Vec F S1024x1024 .f32 :=
  (hbm.slice (Rect.unit (s := S4096x1024) (k0_off1 i) S1024x1024.size (k0_off1_inb i h)) (fun _ => rfl)).view.read (Elt F) fh

/-! Whole loads and stores, shape by shape. -/

section Whole

variable {e : EltTy}

theorem ldA (M : Memref sig .tc .vmem S1024x1024 e) (f : M.view.ty.Contents (Elt F)) :
    M.view.readAt (Elt F) (Rect.unit (s := S1024x1024) ![0, 0] ![1024, 1024] inb_S1024x1024_S1024x1024_0_0).toLoadRect f = M.view.read (Elt F) f := View.readAt_full ..
theorem ldB (M : Memref sig .tc .vmem S1024x128 e) (f : M.view.ty.Contents (Elt F)) :
    M.view.readAt (Elt F) (Rect.unit (s := S1024x128) ![0, 0] ![1024, 128] inb_S1024x128_S1024x128_0_0).toLoadRect f = M.view.read (Elt F) f := View.readAt_full ..
theorem ldC (M : Memref sig .tc .vmem S1024x1 e) (f : M.view.ty.Contents (Elt F)) :
    M.view.readAt (Elt F) (Rect.unit (s := S1024x1) ![0, 0] ![1024, 1] inb_S1024x1_S1024x1_0_0).toLoadRect f = M.view.read (Elt F) f := View.readAt_full ..
theorem ldE (i : grid0.Coords) (M : Memref sig .tc .vmem S8x1024x1024 e) (f : M.view.ty.Contents (Elt F)) (inb) :
    M.view.readAt (Elt F) (Rect.unit (s := S8x1024x1024) (k0_off3 i) ![1, 1024, 1024] inb).toLoadRect f
      = VecWindow.window (M.view.read (Elt F) f) ![(i 2).val, 0, 0] S1x1024x1024.size (slot_inb i) := View.readAt_unit _ _ _ (k0_off3_eq i) _
theorem cvA (M : Memref sig .tc .vmem S1024x1024 e) (w : S1024x1024.Idx → Elt F e) (L) :
    M.view.readCov (⟨Rect.unit (s := S1024x1024) ![0, 0] ![1024, 1024] inb_S1024x1024_S1024x1024_0_0, w⟩ :: L) (Rect.unit (s := S1024x1024) ![0, 0] ![1024, 1024] inb_S1024x1024_S1024x1024_0_0).toLoadRect = w := View.readCov_full ..
theorem cvB (M : Memref sig .tc .vmem S1024x128 e) (w : S1024x128.Idx → Elt F e) (L) :
    M.view.readCov (⟨Rect.unit (s := S1024x128) ![0, 0] ![1024, 128] inb_S1024x128_S1024x128_0_0, w⟩ :: L) (Rect.unit (s := S1024x128) ![0, 0] ![1024, 128] inb_S1024x128_S1024x128_0_0).toLoadRect = w := View.readCov_full ..
theorem cvC (M : Memref sig .tc .vmem S1024x1 e) (w : S1024x1.Idx → Elt F e) (L) :
    M.view.readCov (⟨Rect.unit (s := S1024x1) ![0, 0] ![1024, 1] inb_S1024x1_S1024x1_0_0, w⟩ :: L) (Rect.unit (s := S1024x1) ![0, 0] ![1024, 1] inb_S1024x1_S1024x1_0_0).toLoadRect = w := View.readCov_full ..
theorem cvW (M : Memref sig .tc .vmem S1024x1024 e) (w : S1024x1024.Idx → Elt F e) (L) :
    M.view.readCov (⟨Rect.whole S1024x1024, w⟩ :: L) (Rect.unit (s := S1024x1024) ![0, 0] ![1024, 1024] inb_S1024x1024_S1024x1024_0_0).toLoadRect = w := View.readCov_full ..
theorem stA (M : Memref sig .tc .vmem S1024x1024 e) (f : M.view.ty.Contents (Elt F)) (w : S1024x1024.Idx → Elt F e) (L) :
    M.view.read (Elt F) (M.view.writes (Elt F) f (⟨Rect.unit (s := S1024x1024) ![0, 0] ![1024, 1024] inb_S1024x1024_S1024x1024_0_0, w⟩ :: L)) = w := View.read_writes_full ..
theorem stB (M : Memref sig .tc .vmem S1024x128 e) (f : M.view.ty.Contents (Elt F)) (w : S1024x128.Idx → Elt F e) (L) :
    M.view.read (Elt F) (M.view.writes (Elt F) f (⟨Rect.unit (s := S1024x128) ![0, 0] ![1024, 128] inb_S1024x128_S1024x128_0_0, w⟩ :: L)) = w := View.read_writes_full ..
theorem stC (M : Memref sig .tc .vmem S1024x1 e) (f : M.view.ty.Contents (Elt F)) (w : S1024x1.Idx → Elt F e) (L) :
    M.view.read (Elt F) (M.view.writes (Elt F) f (⟨Rect.unit (s := S1024x1) ![0, 0] ![1024, 1] inb_S1024x1_S1024x1_0_0, w⟩ :: L)) = w := View.read_writes_full ..
theorem stE (i : grid0.Coords) (M : Memref sig .tc .vmem S8x1024x1024 e) (f : M.view.ty.Contents (Elt F)) (inb) (w : S1x1024x1024.Idx → Elt F e) :
    M.view.read (Elt F) (M.view.writes (Elt F) f [⟨Rect.unit (s := S8x1024x1024) (k0_off2 i) ![1, 1024, 1024] inb, w⟩])
      = VecWindow.put (M.view.read (Elt F) f) ![(i 2).val, 0, 0] S1x1024x1024.size w := View.read_writes_cons_put _ _ _ _ [] (k0_off2_eq i)

end Whole

set_option maxHeartbeats 2000000 in
/-- A row block's first point: its rows are copied in and normalised, the first tile's exponentials are formed. -/
theorem run_init (c : Dev nD) (i : grid0.Coords) (arg4 : Memref sig .tc .vmem S1024x1024 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .i32) (harg9 : arg9.IsWhole) (arg10 : Memref sig .tc .vmem S8x1024x1024 .f32) (harg10 : arg10.IsWhole) (arg11 : Memref sig .tc .vmem S1024x1024 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .i32) (harg15 : arg15.IsWhole) (arg16 : Memref sig .tc .vmem S1024x128 .f32) (harg16 : arg16.IsWhole) (hc0 : isInit i) (hc1 : isSweep0 i) (hc2 : ¬isSweep1 i)
    (x0 : Vec F S1024x1024 .f32) (x1 : Vec F S1024x128 .f32) (x2 : Vec F S1024x1024 .f32) (x3 : Vec F S1024x128 .f32) (x4 : Vec F S1024x1 .f32) (x5 : Vec F S1024x1 .i32)
    (st : St F) (fh : HbBuf (F := F) c hbm) (W : Waits sig Unit) (K : PUnit → sProp 𝕄) :
    iprop(ownWin c arg4 arg5 arg6 arg7 arg8 arg9 x0 x1 x2 x3 x4 x5 ∗ ownSt c arg10 arg11 arg12 arg13 arg14 arg15 arg16 st ∗ semVal ((c : Thread nD τ), SemLoc.dma 12) 0 ∗ hbPt c hbm fh ∗ owes (c : Thread nD τ) 0 W
        ∗ (iprop(ownWin c arg4 arg5 arg6 arg7 arg8 arg9 x0 x1 x2 x3 x4 x5 ∗ ownSt c arg10 arg11 arg12 arg13 arg14 arg15 arg16 (sweep0 i x0 (start (rowBlk c i hc0 fh) st))
            ∗ semVal ((c : Thread nD τ), SemLoc.dma 12) 0 ∗ hbPt c hbm fh ∗ (∃ W', owes (c : Thread nD τ) 0 W')) -∗ K ⟨⟩))
      ⊢ wp frame (wpE (defs₀ (F := F)) Variants.none c none) Set.univ (cc0__fused_kernel i (Memref.whole main_arg0) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch7) K := by
  simp only [cc0__fused_kernel_eq_skeleton]; unfold cc0__fused_kernel_skel
  simp only [k0_part1_eq_skeleton]
  unfold ownWin ownSt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%g0, %hg0, HS0⟩, ⟨%g1, %hg1, HS1⟩, ⟨%g2, %hg2, HS2⟩, ⟨%g3, %hg3, HS3⟩, ⟨%g4, %hg4, HS4⟩, ⟨%g5, %hg5, HS5⟩, ⟨%g6, %hg6, HS6⟩⟩, Hq, Hh, HW, Hk⟩
  sl_exec (disch := first | sl_exact hc0 | sl_exact hc1 | sl_exact hc2)
  sl_step
  iapply Hk
  isplitl [H0 H1 H2 H3 H4 H5]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    · iexists _; isplitr; swap; · iexact H5
      ipureintro; exact hf5
  isplitl [HS0 HS1 HS2 HS3 HS4 HS5 HS6]
  · isplitl [HS0]
    · iexists _; isplitr; swap; · iexact HS0
      ipureintro; (try delta run_init.sl.v20); (try delta run_init.sl.HS1_2); (try delta run_init.sl.v14); (try delta run_init.sl.dma0); (try delta run_init.sl.v27); (try delta run_init.sl.v34); (try delta run_init.sl.HS2_1); (try delta run_init.sl.HS3_1); simp only [ldA, ldB, ldC, ldE, cvA, cvB, cvC, cvW, stA, stB, stC, stE, hf0, hf1, hf2, hf3, hf4, hf5, hg0, hg1, hg2, hg3, hg4, hg5, hg6]; rfl
    isplitl [HS1]
    · iexists _; isplitr; swap; · iexact HS1
      ipureintro; (try delta run_init.sl.v20); (try delta run_init.sl.HS1_2); (try delta run_init.sl.v14); (try delta run_init.sl.dma0); (try delta run_init.sl.v27); (try delta run_init.sl.v34); (try delta run_init.sl.HS2_1); (try delta run_init.sl.HS3_1); simp only [ldA, ldB, ldC, ldE, cvA, cvB, cvC, cvW, stA, stB, stC, stE, hf0, hf1, hf2, hf3, hf4, hf5, hg0, hg1, hg2, hg3, hg4, hg5, hg6]; rfl
    isplitl [HS2]
    · iexists _; isplitr; swap; · iexact HS2
      ipureintro; (try delta run_init.sl.v20); (try delta run_init.sl.HS1_2); (try delta run_init.sl.v14); (try delta run_init.sl.dma0); (try delta run_init.sl.v27); (try delta run_init.sl.v34); (try delta run_init.sl.HS2_1); (try delta run_init.sl.HS3_1); simp only [ldA, ldB, ldC, ldE, cvA, cvB, cvC, cvW, stA, stB, stC, stE, hf0, hf1, hf2, hf3, hf4, hf5, hg0, hg1, hg2, hg3, hg4, hg5, hg6]; rfl
    isplitl [HS3]
    · iexists _; isplitr; swap; · iexact HS3
      ipureintro; (try delta run_init.sl.v20); (try delta run_init.sl.HS1_2); (try delta run_init.sl.v14); (try delta run_init.sl.dma0); (try delta run_init.sl.v27); (try delta run_init.sl.v34); (try delta run_init.sl.HS2_1); (try delta run_init.sl.HS3_1); simp only [ldA, ldB, ldC, ldE, cvA, cvB, cvC, cvW, stA, stB, stC, stE, hf0, hf1, hf2, hf3, hf4, hf5, hg0, hg1, hg2, hg3, hg4, hg5, hg6]; rfl
    isplitl [HS4]
    · iexists _; isplitr; swap; · iexact HS4
      ipureintro; (try delta run_init.sl.v20); (try delta run_init.sl.HS1_2); (try delta run_init.sl.v14); (try delta run_init.sl.dma0); (try delta run_init.sl.v27); (try delta run_init.sl.v34); (try delta run_init.sl.HS2_1); (try delta run_init.sl.HS3_1); simp only [ldA, ldB, ldC, ldE, cvA, cvB, cvC, cvW, stA, stB, stC, stE, hf0, hf1, hf2, hf3, hf4, hf5, hg0, hg1, hg2, hg3, hg4, hg5, hg6]; rfl
    isplitl [HS5]
    · iexists _; isplitr; swap; · iexact HS5
      ipureintro; (try delta run_init.sl.v20); (try delta run_init.sl.HS1_2); (try delta run_init.sl.v14); (try delta run_init.sl.dma0); (try delta run_init.sl.v27); (try delta run_init.sl.v34); (try delta run_init.sl.HS2_1); (try delta run_init.sl.HS3_1); simp only [ldA, ldB, ldC, ldE, cvA, cvB, cvC, cvW, stA, stB, stC, stE, hf0, hf1, hf2, hf3, hf4, hf5, hg0, hg1, hg2, hg3, hg4, hg5, hg6]; rfl
    · iexists _; isplitr; swap; · iexact HS6
      ipureintro; exact hg6
  isplitl [Hq]; · iexact Hq
  isplitl [Hh]; · iexact Hh
  iexists _; iexact HW

set_option maxHeartbeats 2000000 in
/-- A later point of the first sweep. -/
theorem run_sweep0 (c : Dev nD) (i : grid0.Coords) (arg4 : Memref sig .tc .vmem S1024x1024 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .i32) (harg9 : arg9.IsWhole) (arg10 : Memref sig .tc .vmem S8x1024x1024 .f32) (harg10 : arg10.IsWhole) (arg11 : Memref sig .tc .vmem S1024x1024 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .i32) (harg15 : arg15.IsWhole) (arg16 : Memref sig .tc .vmem S1024x128 .f32) (harg16 : arg16.IsWhole) (hc0 : ¬isInit i) (hc1 : isSweep0 i) (hc2 : ¬isSweep1 i)
    (x0 : Vec F S1024x1024 .f32) (x1 : Vec F S1024x128 .f32) (x2 : Vec F S1024x1024 .f32) (x3 : Vec F S1024x128 .f32) (x4 : Vec F S1024x1 .f32) (x5 : Vec F S1024x1 .i32)
    (st : St F) (fh : HbBuf (F := F) c hbm) (W : Waits sig Unit) (K : PUnit → sProp 𝕄) :
    iprop(ownWin c arg4 arg5 arg6 arg7 arg8 arg9 x0 x1 x2 x3 x4 x5 ∗ ownSt c arg10 arg11 arg12 arg13 arg14 arg15 arg16 st ∗ semVal ((c : Thread nD τ), SemLoc.dma 12) 0 ∗ hbPt c hbm fh ∗ owes (c : Thread nD τ) 0 W
        ∗ (iprop(ownWin c arg4 arg5 arg6 arg7 arg8 arg9 x0 x1 x2 x3 x4 x5 ∗ ownSt c arg10 arg11 arg12 arg13 arg14 arg15 arg16 (sweep0 i x0 st)
            ∗ semVal ((c : Thread nD τ), SemLoc.dma 12) 0 ∗ hbPt c hbm fh ∗ (∃ W', owes (c : Thread nD τ) 0 W')) -∗ K ⟨⟩))
      ⊢ wp frame (wpE (defs₀ (F := F)) Variants.none c none) Set.univ (cc0__fused_kernel i (Memref.whole main_arg0) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch7) K := by
  simp only [cc0__fused_kernel_eq_skeleton]; unfold cc0__fused_kernel_skel
  simp only [k0_part1_eq_skeleton]
  unfold ownWin ownSt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%g0, %hg0, HS0⟩, ⟨%g1, %hg1, HS1⟩, ⟨%g2, %hg2, HS2⟩, ⟨%g3, %hg3, HS3⟩, ⟨%g4, %hg4, HS4⟩, ⟨%g5, %hg5, HS5⟩, ⟨%g6, %hg6, HS6⟩⟩, Hq, Hh, HW, Hk⟩
  sl_exec (disch := first | sl_exact hc0 | sl_exact hc1 | sl_exact hc2)
  sl_step
  iapply Hk
  isplitl [H0 H1 H2 H3 H4 H5]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    · iexists _; isplitr; swap; · iexact H5
      ipureintro; exact hf5
  isplitl [HS0 HS1 HS2 HS3 HS4 HS5 HS6]
  · isplitl [HS0]
    · iexists _; isplitr; swap; · iexact HS0
      ipureintro; simp only [ldA, ldB, ldC, ldE, cvA, cvB, cvC, cvW, stA, stB, stC, stE, hf0, hf1, hf2, hf3, hf4, hf5, hg0, hg1, hg2, hg3, hg4, hg5, hg6]; rfl
    isplitl [HS1]
    · iexists _; isplitr; swap; · iexact HS1
      ipureintro; exact hg1
    isplitl [HS2]
    · iexists _; isplitr; swap; · iexact HS2
      ipureintro; simp only [ldA, ldB, ldC, ldE, cvA, cvB, cvC, cvW, stA, stB, stC, stE, hf0, hf1, hf2, hf3, hf4, hf5, hg0, hg1, hg2, hg3, hg4, hg5, hg6]; rfl
    isplitl [HS3]
    · iexists _; isplitr; swap; · iexact HS3
      ipureintro; simp only [ldA, ldB, ldC, ldE, cvA, cvB, cvC, cvW, stA, stB, stC, stE, hf0, hf1, hf2, hf3, hf4, hf5, hg0, hg1, hg2, hg3, hg4, hg5, hg6]; rfl
    isplitl [HS4]
    · iexists _; isplitr; swap; · iexact HS4
      ipureintro; exact hg4
    isplitl [HS5]
    · iexists _; isplitr; swap; · iexact HS5
      ipureintro; exact hg5
    · iexists _; isplitr; swap; · iexact HS6
      ipureintro; exact hg6
  isplitl [Hq]; · iexact Hq
  isplitl [Hh]; · iexact Hh
  iexists _; iexact HW

set_option maxHeartbeats 2000000 in
/-- The second sweep's first point. -/
theorem run_first (c : Dev nD) (i : grid0.Coords) (arg4 : Memref sig .tc .vmem S1024x1024 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .i32) (harg9 : arg9.IsWhole) (arg10 : Memref sig .tc .vmem S8x1024x1024 .f32) (harg10 : arg10.IsWhole) (arg11 : Memref sig .tc .vmem S1024x1024 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .i32) (harg15 : arg15.IsWhole) (arg16 : Memref sig .tc .vmem S1024x128 .f32) (harg16 : arg16.IsWhole) (hc0 : ¬isInit i) (hc1 : ¬isSweep0 i) (hc2 : isSweep1 i) (hc3 : isTile0 i) (hc4 : ¬isTilePos i) (hc5 : ¬isTile7 i)
    (x0 : Vec F S1024x1024 .f32) (x1 : Vec F S1024x128 .f32) (x2 : Vec F S1024x1024 .f32) (x3 : Vec F S1024x128 .f32) (x4 : Vec F S1024x1 .f32) (x5 : Vec F S1024x1 .i32)
    (st : St F) (fh : HbBuf (F := F) c hbm) (W : Waits sig Unit) (K : PUnit → sProp 𝕄) :
    iprop(ownWin c arg4 arg5 arg6 arg7 arg8 arg9 x0 x1 x2 x3 x4 x5 ∗ ownSt c arg10 arg11 arg12 arg13 arg14 arg15 arg16 st ∗ semVal ((c : Thread nD τ), SemLoc.dma 12) 0 ∗ hbPt c hbm fh ∗ owes (c : Thread nD τ) 0 W
        ∗ (iprop(ownWin c arg4 arg5 arg6 arg7 arg8 arg9 x0 x1 (wBlk i st) x3 x4 x5 ∗ ownSt c arg10 arg11 arg12 arg13 arg14 arg15 arg16 (sweep1 i (act0 i x1 st) st)
            ∗ semVal ((c : Thread nD τ), SemLoc.dma 12) 0 ∗ hbPt c hbm fh ∗ (∃ W', owes (c : Thread nD τ) 0 W')) -∗ K ⟨⟩))
      ⊢ wp frame (wpE (defs₀ (F := F)) Variants.none c none) Set.univ (cc0__fused_kernel i (Memref.whole main_arg0) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch7) K := by
  simp only [cc0__fused_kernel_eq_skeleton]; unfold cc0__fused_kernel_skel
  simp only [k0_part1_eq_skeleton]
  unfold ownWin ownSt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%g0, %hg0, HS0⟩, ⟨%g1, %hg1, HS1⟩, ⟨%g2, %hg2, HS2⟩, ⟨%g3, %hg3, HS3⟩, ⟨%g4, %hg4, HS4⟩, ⟨%g5, %hg5, HS5⟩, ⟨%g6, %hg6, HS6⟩⟩, Hq, Hh, HW, Hk⟩
  sl_exec (disch := first | sl_exact hc0 | sl_exact hc1 | sl_exact hc2 | sl_exact hc3 | sl_exact hc4 | sl_exact hc5)
  sl_step
  iapply Hk
  isplitl [H0 H1 H2 H3 H4 H5]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; (try delta run_first.sl.r_1); (try delta run_first.sl.r_2); simp only [ldA, ldB, ldC, ldE, cvA, cvB, cvC, cvW, stA, stB, stC, stE, hf0, hf1, hf2, hf3, hf4, hf5, hg0, hg1, hg2, hg3, hg4, hg5, hg6]; rfl
    isplitl [H3]
    · iexists _; isplitr; swap; · iexact H3
      ipureintro; exact hf3
    isplitl [H4]
    · iexists _; isplitr; swap; · iexact H4
      ipureintro; exact hf4
    · iexists _; isplitr; swap; · iexact H5
      ipureintro; exact hf5
  isplitl [HS0 HS1 HS2 HS3 HS4 HS5 HS6]
  · isplitl [HS0]
    · iexists _; isplitr; swap; · iexact HS0
      ipureintro; exact hg0
    isplitl [HS1]
    · iexists _; isplitr; swap; · iexact HS1
      ipureintro; exact hg1
    isplitl [HS2]
    · iexists _; isplitr; swap; · iexact HS2
      ipureintro; exact hg2
    isplitl [HS3]
    · iexists _; isplitr; swap; · iexact HS3
      ipureintro; exact hg3
    isplitl [HS4]
    · iexists _; isplitr; swap; · iexact HS4
      ipureintro; (try delta run_first.sl.r_1); (try delta run_first.sl.r_2); simp only [ldA, ldB, ldC, ldE, cvA, cvB, cvC, cvW, stA, stB, stC, stE, hf0, hf1, hf2, hf3, hf4, hf5, hg0, hg1, hg2, hg3, hg4, hg5, hg6]; rfl
    isplitl [HS5]
    · iexists _; isplitr; swap; · iexact HS5
      ipureintro; (try delta run_first.sl.r_1); (try delta run_first.sl.r_2); simp only [ldA, ldB, ldC, ldE, cvA, cvB, cvC, cvW, stA, stB, stC, stE, hf0, hf1, hf2, hf3, hf4, hf5, hg0, hg1, hg2, hg3, hg4, hg5, hg6]; rfl
    · iexists _; isplitr; swap; · iexact HS6
      ipureintro; (try delta run_first.sl.r_1); (try delta run_first.sl.r_2); simp only [ldA, ldB, ldC, ldE, cvA, cvB, cvC, cvW, stA, stB, stC, stE, hf0, hf1, hf2, hf3, hf4, hf5, hg0, hg1, hg2, hg3, hg4, hg5, hg6]; rfl
  isplitl [Hq]; · iexact Hq
  isplitl [Hh]; · iexact Hh
  iexists _; iexact HW

set_option maxHeartbeats 2000000 in
/-- A point in the middle of the second sweep. -/
theorem run_mid (c : Dev nD) (i : grid0.Coords) (arg4 : Memref sig .tc .vmem S1024x1024 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .i32) (harg9 : arg9.IsWhole) (arg10 : Memref sig .tc .vmem S8x1024x1024 .f32) (harg10 : arg10.IsWhole) (arg11 : Memref sig .tc .vmem S1024x1024 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .i32) (harg15 : arg15.IsWhole) (arg16 : Memref sig .tc .vmem S1024x128 .f32) (harg16 : arg16.IsWhole) (hc0 : ¬isInit i) (hc1 : ¬isSweep0 i) (hc2 : isSweep1 i) (hc3 : ¬isTile0 i) (hc4 : isTilePos i) (hc5 : ¬isTile7 i)
    (x0 : Vec F S1024x1024 .f32) (x1 : Vec F S1024x128 .f32) (x2 : Vec F S1024x1024 .f32) (x3 : Vec F S1024x128 .f32) (x4 : Vec F S1024x1 .f32) (x5 : Vec F S1024x1 .i32)
    (st : St F) (fh : HbBuf (F := F) c hbm) (W : Waits sig Unit) (K : PUnit → sProp 𝕄) :
    iprop(ownWin c arg4 arg5 arg6 arg7 arg8 arg9 x0 x1 x2 x3 x4 x5 ∗ ownSt c arg10 arg11 arg12 arg13 arg14 arg15 arg16 st ∗ semVal ((c : Thread nD τ), SemLoc.dma 12) 0 ∗ hbPt c hbm fh ∗ owes (c : Thread nD τ) 0 W
        ∗ (iprop(ownWin c arg4 arg5 arg6 arg7 arg8 arg9 x0 x1 (wBlk i st) x3 x4 x5 ∗ ownSt c arg10 arg11 arg12 arg13 arg14 arg15 arg16 (sweep1 i (actS i x1 st) st)
            ∗ semVal ((c : Thread nD τ), SemLoc.dma 12) 0 ∗ hbPt c hbm fh ∗ (∃ W', owes (c : Thread nD τ) 0 W')) -∗ K ⟨⟩))
      ⊢ wp frame (wpE (defs₀ (F := F)) Variants.none c none) Set.univ (cc0__fused_kernel i (Memref.whole main_arg0) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch7) K := by
  simp only [cc0__fused_kernel_eq_skeleton]; unfold cc0__fused_kernel_skel
  simp only [k0_part1_eq_skeleton]
  unfold ownWin ownSt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%g0, %hg0, HS0⟩, ⟨%g1, %hg1, HS1⟩, ⟨%g2, %hg2, HS2⟩, ⟨%g3, %hg3, HS3⟩, ⟨%g4, %hg4, HS4⟩, ⟨%g5, %hg5, HS5⟩, ⟨%g6, %hg6, HS6⟩⟩, Hq, Hh, HW, Hk⟩
  sl_exec (disch := first | sl_exact hc0 | sl_exact hc1 | sl_exact hc2 | sl_exact hc3 | sl_exact hc4 | sl_exact hc5)
  sl_step
  iapply Hk
  isplitl [H0 H1 H2 H3 H4 H5]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; (try delta run_mid.sl.r_1); (try delta run_mid.sl.r_2); simp only [ldA, ldB, ldC, ldE, cvA, cvB, cvC, cvW, stA, stB, stC, stE, hf0, hf1, hf2, hf3, hf4, hf5, hg0, hg1, hg2, hg3, hg4, hg5, hg6]; rfl
    isplitl [H3]
    · iexists _; isplitr; swap; · iexact H3
      ipureintro; exact hf3
    isplitl [H4]
    · iexists _; isplitr; swap; · iexact H4
      ipureintro; exact hf4
    · iexists _; isplitr; swap; · iexact H5
      ipureintro; exact hf5
  isplitl [HS0 HS1 HS2 HS3 HS4 HS5 HS6]
  · isplitl [HS0]
    · iexists _; isplitr; swap; · iexact HS0
      ipureintro; exact hg0
    isplitl [HS1]
    · iexists _; isplitr; swap; · iexact HS1
      ipureintro; exact hg1
    isplitl [HS2]
    · iexists _; isplitr; swap; · iexact HS2
      ipureintro; exact hg2
    isplitl [HS3]
    · iexists _; isplitr; swap; · iexact HS3
      ipureintro; exact hg3
    isplitl [HS4]
    · iexists _; isplitr; swap; · iexact HS4
      ipureintro; (try delta run_mid.sl.r_1); (try delta run_mid.sl.r_2); simp only [ldA, ldB, ldC, ldE, cvA, cvB, cvC, cvW, stA, stB, stC, stE, hf0, hf1, hf2, hf3, hf4, hf5, hg0, hg1, hg2, hg3, hg4, hg5, hg6]; rfl
    isplitl [HS5]
    · iexists _; isplitr; swap; · iexact HS5
      ipureintro; (try delta run_mid.sl.r_1); (try delta run_mid.sl.r_2); simp only [ldA, ldB, ldC, ldE, cvA, cvB, cvC, cvW, stA, stB, stC, stE, hf0, hf1, hf2, hf3, hf4, hf5, hg0, hg1, hg2, hg3, hg4, hg5, hg6]; rfl
    · iexists _; isplitr; swap; · iexact HS6
      ipureintro; (try delta run_mid.sl.r_1); (try delta run_mid.sl.r_2); simp only [ldA, ldB, ldC, ldE, cvA, cvB, cvC, cvW, stA, stB, stC, stE, hf0, hf1, hf2, hf3, hf4, hf5, hg0, hg1, hg2, hg3, hg4, hg5, hg6]; rfl
  isplitl [Hq]; · iexact Hq
  isplitl [Hh]; · iexact Hh
  iexists _; iexact HW

set_option maxHeartbeats 2000000 in
/-- The second sweep's last point: the results of the row block are written. -/
theorem run_last (c : Dev nD) (i : grid0.Coords) (arg4 : Memref sig .tc .vmem S1024x1024 .f32) (harg4 : arg4.IsWhole) (arg5 : Memref sig .tc .vmem S1024x128 .f32) (harg5 : arg5.IsWhole) (arg6 : Memref sig .tc .vmem S1024x1024 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .i32) (harg9 : arg9.IsWhole) (arg10 : Memref sig .tc .vmem S8x1024x1024 .f32) (harg10 : arg10.IsWhole) (arg11 : Memref sig .tc .vmem S1024x1024 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .i32) (harg15 : arg15.IsWhole) (arg16 : Memref sig .tc .vmem S1024x128 .f32) (harg16 : arg16.IsWhole) (hc0 : ¬isInit i) (hc1 : ¬isSweep0 i) (hc2 : isSweep1 i) (hc3 : ¬isTile0 i) (hc4 : isTilePos i) (hc5 : isTile7 i)
    (x0 : Vec F S1024x1024 .f32) (x1 : Vec F S1024x128 .f32) (x2 : Vec F S1024x1024 .f32) (x3 : Vec F S1024x128 .f32) (x4 : Vec F S1024x1 .f32) (x5 : Vec F S1024x1 .i32)
    (st : St F) (fh : HbBuf (F := F) c hbm) (W : Waits sig Unit) (K : PUnit → sProp 𝕄) :
    iprop(ownWin c arg4 arg5 arg6 arg7 arg8 arg9 x0 x1 x2 x3 x4 x5 ∗ ownSt c arg10 arg11 arg12 arg13 arg14 arg15 arg16 st ∗ semVal ((c : Thread nD τ), SemLoc.dma 12) 0 ∗ hbPt c hbm fh ∗ owes (c : Thread nD τ) 0 W
        ∗ (iprop(ownWin c arg4 arg5 arg6 arg7 arg8 arg9 x0 x1 (wBlk i st) (actS i x1 st) (entRows st) (sweep1 i (actS i x1 st) st).am ∗ ownSt c arg10 arg11 arg12 arg13 arg14 arg15 arg16 (sweep1 i (actS i x1 st) st)
            ∗ semVal ((c : Thread nD τ), SemLoc.dma 12) 0 ∗ hbPt c hbm fh ∗ (∃ W', owes (c : Thread nD τ) 0 W')) -∗ K ⟨⟩))
      ⊢ wp frame (wpE (defs₀ (F := F)) Variants.none c none) Set.univ (cc0__fused_kernel i (Memref.whole main_arg0) (Memref.isWhole_whole _) arg4 harg4 arg5 harg5 arg6 harg6 arg7 harg7 arg8 harg8 arg9 harg9 arg10 harg10 arg11 harg11 arg12 harg12 arg13 harg13 arg14 harg14 arg15 harg15 arg16 harg16 cc0_scratch7) K := by
  simp only [cc0__fused_kernel_eq_skeleton]; unfold cc0__fused_kernel_skel
  simp only [k0_part1_eq_skeleton]
  unfold ownWin ownSt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨⟨%g0, %hg0, HS0⟩, ⟨%g1, %hg1, HS1⟩, ⟨%g2, %hg2, HS2⟩, ⟨%g3, %hg3, HS3⟩, ⟨%g4, %hg4, HS4⟩, ⟨%g5, %hg5, HS5⟩, ⟨%g6, %hg6, HS6⟩⟩, Hq, Hh, HW, Hk⟩
  sl_exec (disch := first | sl_exact hc0 | sl_exact hc1 | sl_exact hc2 | sl_exact hc3 | sl_exact hc4 | sl_exact hc5)
  sl_step
  iapply Hk
  isplitl [H0 H1 H2 H3 H4 H5]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; (try delta run_last.sl.v55); (try delta run_last.sl.v63); (try delta run_last.sl.HS5_1); (try delta run_last.sl.HS6_1); (try delta run_last.sl.r); (try delta run_last.sl.r_1); (try delta run_last.sl.r_2); simp only [ldA, ldB, ldC, ldE, cvA, cvB, cvC, cvW, stA, stB, stC, stE, hf0, hf1, hf2, hf3, hf4, hf5, hg0, hg1, hg2, hg3, hg4, hg5, hg6]; rfl
    isplitl [H3]
    · iexists _; isplitr; swap; · iexact H3
      ipureintro; (try delta run_last.sl.v55); (try delta run_last.sl.v63); (try delta run_last.sl.HS5_1); (try delta run_last.sl.HS6_1); (try delta run_last.sl.r); (try delta run_last.sl.r_1); (try delta run_last.sl.r_2); simp only [ldA, ldB, ldC, ldE, cvA, cvB, cvC, cvW, stA, stB, stC, stE, hf0, hf1, hf2, hf3, hf4, hf5, hg0, hg1, hg2, hg3, hg4, hg5, hg6]; rfl
    isplitl [H4]
    · iexists _; isplitr; swap; · iexact H4
      ipureintro; (try delta run_last.sl.v55); (try delta run_last.sl.v63); (try delta run_last.sl.HS5_1); (try delta run_last.sl.HS6_1); (try delta run_last.sl.r); (try delta run_last.sl.r_1); (try delta run_last.sl.r_2); simp only [ldA, ldB, ldC, ldE, cvA, cvB, cvC, cvW, stA, stB, stC, stE, hf0, hf1, hf2, hf3, hf4, hf5, hg0, hg1, hg2, hg3, hg4, hg5, hg6]; rfl
    · iexists _; isplitr; swap; · iexact H5
      ipureintro; (try delta run_last.sl.v55); (try delta run_last.sl.v63); (try delta run_last.sl.HS5_1); (try delta run_last.sl.HS6_1); (try delta run_last.sl.r); (try delta run_last.sl.r_1); (try delta run_last.sl.r_2); simp only [ldA, ldB, ldC, ldE, cvA, cvB, cvC, cvW, stA, stB, stC, stE, hf0, hf1, hf2, hf3, hf4, hf5, hg0, hg1, hg2, hg3, hg4, hg5, hg6]; rfl
  isplitl [HS0 HS1 HS2 HS3 HS4 HS5 HS6]
  · isplitl [HS0]
    · iexists _; isplitr; swap; · iexact HS0
      ipureintro; exact hg0
    isplitl [HS1]
    · iexists _; isplitr; swap; · iexact HS1
      ipureintro; exact hg1
    isplitl [HS2]
    · iexists _; isplitr; swap; · iexact HS2
      ipureintro; exact hg2
    isplitl [HS3]
    · iexists _; isplitr; swap; · iexact HS3
      ipureintro; exact hg3
    isplitl [HS4]
    · iexists _; isplitr; swap; · iexact HS4
      ipureintro; (try delta run_last.sl.v55); (try delta run_last.sl.v63); (try delta run_last.sl.HS5_1); (try delta run_last.sl.HS6_1); (try delta run_last.sl.r); (try delta run_last.sl.r_1); (try delta run_last.sl.r_2); simp only [ldA, ldB, ldC, ldE, cvA, cvB, cvC, cvW, stA, stB, stC, stE, hf0, hf1, hf2, hf3, hf4, hf5, hg0, hg1, hg2, hg3, hg4, hg5, hg6]; rfl
    isplitl [HS5]
    · iexists _; isplitr; swap; · iexact HS5
      ipureintro; (try delta run_last.sl.v55); (try delta run_last.sl.v63); (try delta run_last.sl.HS5_1); (try delta run_last.sl.HS6_1); (try delta run_last.sl.r); (try delta run_last.sl.r_1); (try delta run_last.sl.r_2); simp only [ldA, ldB, ldC, ldE, cvA, cvB, cvC, cvW, stA, stB, stC, stE, hf0, hf1, hf2, hf3, hf4, hf5, hg0, hg1, hg2, hg3, hg4, hg5, hg6]; rfl
    · iexists _; isplitr; swap; · iexact HS6
      ipureintro; (try delta run_last.sl.v55); (try delta run_last.sl.v63); (try delta run_last.sl.HS5_1); (try delta run_last.sl.HS6_1); (try delta run_last.sl.r); (try delta run_last.sl.r_1); (try delta run_last.sl.r_2); simp only [ldA, ldB, ldC, ldE, cvA, cvB, cvC, cvW, stA, stB, stC, stE, hf0, hf1, hf2, hf3, hf4, hf5, hg0, hg1, hg2, hg3, hg4, hg5, hg6]; rfl
  isplitl [Hq]; · iexact Hq
  isplitl [Hh]; · iexact Hh
  iexists _; iexact HW

end Cert.KernelIdeal.Proof

end
-- ==== Proof.KernelIdealValues.lean ====
/- What the scratch buffers and the results hold at each point, in closed form over the row block and the tile, and the proof
   that the body's steps keep to it. -/
module

public import proofs.«01_k».proof.Proof.KernelIdealRuns

@[expose] public section

set_option maxRecDepth 16384

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ)

/-- The grid point of a number. -/
def pt (n : ℕ) : Fin cfg0.N := ⟨n % 64, lt_of_lt_of_eq (Nat.mod_lt _ (by decide)) (show 64 = cfg0.N from N_0.symm)⟩

theorem val_lt (t : Fin cfg0.N) : t.val < 64 := lt_of_lt_of_eq t.isLt (show cfg0.N = 64 from N_0)
theorem pt_of (n : ℕ) (t : Fin cfg0.N) (h : n = t.val) : pt n = t := Fin.ext (by show n % 64 = _; have := val_lt t; omega)

theorem isInit_pt (i : ℕ) : isInit (grid0.coords (pt (16 * i))) := (isInit_iff _).mpr (by show (16 * i % 64) % 16 = 0; omega)

/-- The rows of row block `i`. -/
def hB (c : Dev nD) (i : ℕ) : Vec F S1024x1024 .f32 := rowBlk c (grid0.coords (pt (16 * i))) (isInit_pt i) (V m c main_arg0)
/-- Tile `k`'s prototypes, as row block `i`'s first sweep reads them. -/
def pB (c : Dev nD) (i k : ℕ) : Vec F S1024x1024 .f32 := iblk m c 0 (pt (16 * i + k))
/-- Tile `k`'s actions, as row block `i`'s second sweep reads them. -/
def aB (c : Dev nD) (i k : ℕ) : Vec F S1024x128 .f32 := iblk m c 1 (pt (16 * i + 8 + k))

/-- The normalised row block. -/
def hnV (c : Dev nD) (i : ℕ) : Vec F S1024x1024 .f32 := k0_pay1 (hB m c i)
/-- A tile's exponentials. -/
def eV (c : Dev nD) (i k : ℕ) : Vec F S1x1024x1024 .f32 := k0_pay8 (pB m c i k) (hnV m c i)
/-- The sum of the exponentials over the first `k` tiles. -/
def sV (c : Dev nD) (i : ℕ) : ℕ → Vec F S1024x1 .f32
  | 0 => k0_pay2
  | k + 1 => k0_pay9 (pB m c i k) (hnV m c i) (sV c i k)
/-- The sum of exponential times similarity over the first `k` tiles. -/
def dotV (c : Dev nD) (i : ℕ) : ℕ → Vec F S1024x1 .f32
  | 0 => k0_pay3
  | k + 1 => k0_pay10 (pB m c i k) (hnV m c i) (dotV c i k)
/-- A tile's weights. -/
def wV (c : Dev nD) (i k : ℕ) : Vec F S1024x1024 .f32 := k0_pay16 (sV m c i 8) (eV m c i k)
/-- The largest weight over the first `k` tiles. -/
def mV (c : Dev nD) (i : ℕ) : ℕ → Vec F S1024x1 .f32
  | 0 => k0_pay4
  | k + 1 => k0_pay19 (sV m c i 8) (eV m c i k) (mV c i k)
/-- Its index. -/
def amV (c : Dev nD) (i : ℕ) : ℕ → Vec F S1024x1 .i32
  | 0 => k0_pay5
  | k + 1 => k0_pay18 (BitVec.ofNat 32 k) (sV m c i 8) (eV m c i k) (mV m c i k) (amV c i k)
/-- The action over the tiles up to and including tile `k`. -/
def actV (c : Dev nD) (i : ℕ) : ℕ → Vec F S1024x128 .f32
  | 0 => k0_pay12 (wV m c i 0) (aB m c i 0)
  | k + 1 => k0_pay13 (wV m c i (k + 1)) (aB m c i (k + 1)) (actV c i k)
/-- The entropy rows. -/
def entV (c : Dev nD) (i : ℕ) : Vec F S1024x1 .f32 := k0_pay14 (k0_pay15 (sV m c i 8)) (sV m c i 8) (dotV m c i 8)

/-- What the scratch holds after `r` points of row block `i`. -/
structure Inv (c : Dev nD) (i r : ℕ) (st : St F) : Prop where
  hn : st.hn = hnV m c i
  s : st.s = sV m c i (min r 8)
  dot : st.dot = dotV m c i (min r 8)
  mx : st.m = mV m c i (r - 8)
  am : st.am = amV m c i (r - 8)
  e : ∀ j : grid0.Coords, (j 2).val < min r 8 → slot j st = eV m c i (j 2).val
  act : 8 < r → st.act = actV m c i (r - 9)

/-- A slot just stored holds what was stored; the others are as before. -/
theorem slot_same (j i : grid0.Coords) (h : (j 2).val = (i 2).val) (st : St F) (x0 : Vec F S1024x1024 .f32) :
    slot j (sweep0 i x0 st) = k0_pay8 x0 st.hn := by
  have hg : ∀ (n : ℕ) (hn : n = (i 2).val) (inb), VecWindow.window (s := S8x1024x1024) (VecWindow.put st.e ![(i 2).val, 0, 0] S1x1024x1024.size (k0_pay8 x0 st.hn))
      ![n, 0, 0] S1x1024x1024.size inb = k0_pay8 x0 st.hn := by
    intro n hn inb; subst hn; exact VecWindow.window_put_same ..
  exact hg _ h _
theorem slot_other (j i : grid0.Coords) (h : (j 2).val ≠ (i 2).val) (st : St F) (x0 : Vec F S1024x1024 .f32) :
    slot j (sweep0 i x0 st) = slot j st := by
  unfold slot sweep0
  exact VecWindow.window_put_of_disjoint _ _ _ _ _ _ _ 0 (by
    show (j 2).val + 1 ≤ (i 2).val ∨ (i 2).val + 1 ≤ (j 2).val; omega)

/-- One step of the first sweep, from the start or later. -/
theorem inv_sweep0 (c : Dev nD) (t : Fin cfg0.N) (ht : t.val % 16 < 8) (st : St F) (hhn : st.hn = hnV m c (t.val / 16))
    (hs : st.s = sV m c (t.val / 16) (t.val % 16)) (hd : st.dot = dotV m c (t.val / 16) (t.val % 16))
    (hm : st.m = mV m c (t.val / 16) 0) (ham : st.am = amV m c (t.val / 16) 0)
    (he : ∀ j : grid0.Coords, (j 2).val < t.val % 16 → slot j st = eV m c (t.val / 16) (j 2).val) :
    Inv m c (t.val / 16) (t.val % 16 + 1) (sweep0 (grid0.coords t) (iblk m c 0 t) st) := by
  have hp : iblk m c 0 t = pB m c (t.val / 16) (t.val % 16) := by unfold pB; rw [pt_of _ t (by omega)]
  have h8 : min (t.val % 16 + 1) 8 = t.val % 16 + 1 := by omega
  have h0 : t.val % 16 + 1 - 8 = 0 := by omega
  refine ⟨hhn, ?_, ?_, ?_, ?_, ?_, fun h => by omega⟩
  · rw [h8]; show k0_pay9 _ st.hn st.s = k0_pay9 _ _ _; rw [hp, hhn, hs]
  · rw [h8]; show k0_pay10 _ st.hn st.dot = k0_pay10 _ _ _; rw [hp, hhn, hd]
  · rw [h0]; exact hm
  · rw [h0]; exact ham
  · intro j hj
    rw [h8] at hj
    have hc := coord2 t
    by_cases h : (j 2).val = (grid0.coords t 2).val
    · rw [slot_same _ _ h, hp, hhn]; unfold eV; rw [h, hc, show t.val % 8 = t.val % 16 from by omega]
    · rw [slot_other _ _ h]; exact he j (by rw [hc] at h; omega)

/-- After a row block's first point. -/
theorem inv_init (c : Dev nD) (t : Fin cfg0.N) (ht : t.val % 16 = 0) (hi : isInit (grid0.coords t)) (st : St F) :
    Inv m c (t.val / 16) (t.val % 16 + 1) (sweep0 (grid0.coords t) (iblk m c 0 t) (start (rowBlk c (grid0.coords t) hi (V m c main_arg0)) st)) := by
  have hp : pt (16 * (t.val / 16)) = t := pt_of _ t (by omega)
  refine inv_sweep0 m c t (by omega) _ ?_ ?_ ?_ rfl rfl (fun j hj => by omega)
  · show k0_pay1 _ = k0_pay1 (hB m c _); unfold hB; congr 1; congr 1; rw [hp]
  · rw [ht]; rfl
  · rw [ht]; rfl

/-- After a later point of the first sweep. -/
theorem inv_next (c : Dev nD) (t : Fin cfg0.N) (ht : t.val % 16 < 8) (st : St F) (h : Inv m c (t.val / 16) (t.val % 16) st) :
    Inv m c (t.val / 16) (t.val % 16 + 1) (sweep0 (grid0.coords t) (iblk m c 0 t) st) := by
  have h8 : min (t.val % 16) 8 = t.val % 16 := by omega
  have h0 : t.val % 16 - 8 = 0 := by omega
  refine inv_sweep0 m c t ht st h.hn ?_ ?_ ?_ ?_ ?_
  · rw [h.s, h8]
  · rw [h.dot, h8]
  · rw [h.mx, h0]
  · rw [h.am, h0]
  · intro j hj; exact h.e j (by rw [h8]; exact hj)

/-- In the second sweep the point's tile has its slot's exponentials, so its weights are the tile's. -/
theorem wBlk_eq (c : Dev nD) (t : Fin cfg0.N) (ht : 8 ≤ t.val % 16) (st : St F) (h : Inv m c (t.val / 16) (t.val % 16) st) :
    st.s = sV m c (t.val / 16) 8 ∧ slot (grid0.coords t) st = eV m c (t.val / 16) (t.val % 8) ∧ wBlk (grid0.coords t) st = wV m c (t.val / 16) (t.val % 8) := by
  have h8 : min (t.val % 16) 8 = 8 := by omega
  have hc := coord2 t
  have hs : st.s = sV m c (t.val / 16) 8 := by rw [h.s, h8]
  have hsl : slot (grid0.coords t) st = eV m c (t.val / 16) (t.val % 8) := by
    rw [h.e _ (by rw [hc, h8]; omega), hc]
  exact ⟨hs, hsl, by unfold wBlk wV; rw [hs, hsl]⟩

/-- After a point of the second sweep whose action is right. -/
theorem inv_sweep1 (c : Dev nD) (t : Fin cfg0.N) (ht : 8 ≤ t.val % 16) (st : St F) (h : Inv m c (t.val / 16) (t.val % 16) st)
    (act : Vec F S1024x128 .f32) (ha : act = actV m c (t.val / 16) (t.val % 8)) :
    Inv m c (t.val / 16) (t.val % 16 + 1) (sweep1 (grid0.coords t) act st) := by
  have h8 : min (t.val % 16) 8 = 8 := by omega
  have h8' : min (t.val % 16 + 1) 8 = 8 := by omega
  have hk : t.val % 16 + 1 - 8 = t.val % 8 + 1 := by omega
  have hk' : t.val % 16 - 8 = t.val % 8 := by omega
  obtain ⟨hs, hsl, -⟩ := wBlk_eq m c t ht st h
  refine ⟨h.hn, ?_, ?_, ?_, ?_, ?_, ?_⟩
  · rw [h8']; exact hs
  · rw [h8', show (sweep1 (grid0.coords t) act st).dot = st.dot from rfl, h.dot, h8]
  · rw [hk]; show k0_pay19 st.s (slot (grid0.coords t) st) st.m = k0_pay19 _ _ _; rw [hs, hsl, h.mx, hk']
  · rw [hk]; show k0_pay18 _ st.s (slot (grid0.coords t) st) st.m st.am = k0_pay18 _ _ _ _ _; rw [hs, hsl, h.mx, h.am, hk', coord2 t]
  · intro j hj; exact h.e j (by rw [h8]; rw [h8'] at hj; exact hj)
  · intro _; rw [show t.val % 16 + 1 - 9 = t.val % 8 from by omega]; exact ha

/-- The action after the second sweep's first point, and after a later one. -/
theorem act0_eq (c : Dev nD) (t : Fin cfg0.N) (ht : t.val % 16 = 8) (st : St F) (h : Inv m c (t.val / 16) (t.val % 16) st) :
    act0 (grid0.coords t) (iblk m c 1 t) st = actV m c (t.val / 16) (t.val % 8) := by
  have ha : iblk m c 1 t = aB m c (t.val / 16) 0 := by unfold aB; rw [pt_of _ t (by omega)]
  unfold act0; rw [(wBlk_eq m c t (by omega) st h).2.2, ha, show t.val % 8 = 0 from by omega]; rfl
theorem actS_eq (c : Dev nD) (t : Fin cfg0.N) (ht : 8 < t.val % 16) (st : St F) (h : Inv m c (t.val / 16) (t.val % 16) st) :
    actS (grid0.coords t) (iblk m c 1 t) st = actV m c (t.val / 16) (t.val % 8) := by
  obtain ⟨k, hk⟩ : ∃ k, t.val % 8 = k + 1 := ⟨t.val % 8 - 1, by omega⟩
  have ha : iblk m c 1 t = aB m c (t.val / 16) (k + 1) := by unfold aB; rw [pt_of _ t (by omega)]
  unfold actS; rw [(wBlk_eq m c t (by omega) st h).2.2, ha, h.act ht, hk, show t.val % 16 - 9 = k from by omega]; rfl

/-- The entropy rows and the index at the second sweep's last point. -/
theorem ent_eq (c : Dev nD) (t : Fin cfg0.N) (ht : t.val % 16 = 15) (st : St F) (h : Inv m c (t.val / 16) (t.val % 16) st) :
    entRows st = entV m c (t.val / 16) := by
  have h8 : min (t.val % 16) 8 = 8 := by omega
  unfold entRows entV; rw [h.s, h.dot, h8]
theorem am_eq (c : Dev nD) (t : Fin cfg0.N) (ht : t.val % 16 = 15) (st : St F) (h : Inv m c (t.val / 16) (t.val % 16 + 1) st) :
    st.am = amV m c (t.val / 16) 8 := by
  rw [h.am, show t.val % 16 + 1 - 8 = 8 from by omega]

end Cert.KernelIdeal.Proof

end
-- ==== Proof.KernelIdealFrame.lean ====
/- The kernel's launch: the body keeps the closed-form contents at every grid point, so the run ends with every output array at
   them, the argument arrays unchanged and every semaphore at zero. -/
module

public import proofs.«01_k».proof.Proof.KernelIdealValues

@[expose] public section

set_option maxRecDepth 16384

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The region invariant before point `n`: the scratch at contents that are right inside a row block, the generator register,
    the DMA cell at zero, the embeddings as launched. -/
def Phi (c : Dev nD) (n : ℕ) : sProp 𝕄 :=
  iprop(∃ st : St F, ⌜n % 16 ≠ 0 → Inv m c (n / 16) (n % 16) st⌝ ∗ ownSt c scE scHn scS scDot scM scAm scAct st ∗ (∃ r, prngReg c r)
    ∗ semVal ((c : Thread nD τ), SemLoc.dma 12) 0 ∗ hbPt c hbm (V m c main_arg0))

/-- The pipeline's proof data: the inputs' buffers at their blocks, the outputs' at the closed forms. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => wV m c (t.val / 16) (t.val % 8)
    | ⟨3, _⟩ => actV m c (t.val / 16) 7
    | ⟨4, _⟩ => entV m c (t.val / 16)
    | ⟨5, _⟩ => amV m c (t.val / 16) 8
  Φ t := Phi m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = wV m c (t.val / 16) (t.val % 8) := by dsimp only [dats]
theorem after_3 (c : Dev nD) (t : Fin cfg0.N) : (dats m 0 c).after 3 t = actV m c (t.val / 16) 7 := by dsimp only [dats]
theorem after_4 (c : Dev nD) (t : Fin cfg0.N) : (dats m 0 c).after 4 t = entV m c (t.val / 16) := by dsimp only [dats]
theorem after_5 (c : Dev nD) (t : Fin cfg0.N) : (dats m 0 c).after 5 t = amV m c (t.val / 16) 8 := by dsimp only [dats]
theorem before_0 (c : Dev nD) (t : Fin cfg0.N) (d) : (dats m 0 c).before 0 t d = iblk m c 0 t :=
  before_protos m (dats m 0 c) (A_eq m c 0) (after_0 m c) t d
theorem before_1 (c : Dev nD) (t : Fin cfg0.N) (d) : (dats m 0 c).before 1 t d = iblk m c 1 t :=
  before_actions m (dats m 0 c) (A_eq m c 1) (after_1 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))
/-- What it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t
    ∗ (dats m 0 c).leavesExact 2 t ∗ (dats m 0 c).leavesExact 3 t ∗ (dats m 0 c).leavesExact 4 t ∗ (dats m 0 c).leavesExact 5 t)

/-- From the contents a case leaves to what the body returns. -/
theorem post_of (c : Dev nD) (t : Fin cfg0.N) (st' : St F) (y2 : Vec F S1024x1024 .f32) (y3 : Vec F S1024x128 .f32) (y4 : Vec F S1024x1 .f32) (y5 : Vec F S1024x1 .i32)
    (hst : (t.val + 1) % 16 ≠ 0 → Inv m c ((t.val + 1) / 16) ((t.val + 1) % 16) st')
    (h2 : owns (c : Thread nD τ) (ms2 t) fullShare y2 ⊢ (dats m 0 c).leavesExact 2 t) (h3 : owns (c : Thread nD τ) (ms3 t) fullShare y3 ⊢ (dats m 0 c).leavesExact 3 t)
    (h4 : owns (c : Thread nD τ) (ms4 t) fullShare y4 ⊢ (dats m 0 c).leavesExact 4 t) (h5 : owns (c : Thread nD τ) (ms5 t) fullShare y5 ⊢ (dats m 0 c).leavesExact 5 t) :
    iprop((∃ r, prngReg c r) ∗ ownWin c (ms0 t) (ms1 t) (ms2 t) (ms3 t) (ms4 t) (ms5 t) (iblk m c 0 t) (iblk m c 1 t) y2 y3 y4 y5
      ∗ ownSt c scE scHn scS scDot scM scAm scAct st' ∗ semVal ((c : Thread nD τ), SemLoc.dma 12) 0 ∗ hbPt c hbm (V m c main_arg0) ∗ (∃ W', owes (c : Thread nD τ) 0 W'))
      ⊢ bodyPost m c t := by
  unfold bodyPost ownWin
  rw [show (dats m 0 c).Φ t.succ = Phi m c (t.val + 1) from rfl]
  unfold Phi Dat.owesAt Pipeline.owesWithin
  rw [show (dats m 0 c).owed t.succ = 0 from rfl]
  rw [show (dats m 0 c).leavesExact 0 t = owns (c : Thread nD τ) (ms0 t) fullShare (iblk m c 0 t) from by
    unfold Dat.leavesExact; rw [show cfg0.idle 0 (cfg0.grid.coords t) = false from rfl, after_0]]
  rw [show (dats m 0 c).leavesExact 1 t = owns (c : Thread nD τ) (ms1 t) fullShare (iblk m c 1 t) from by
    unfold Dat.leavesExact; rw [show cfg0.idle 1 (cfg0.grid.coords t) = false from rfl, after_1]]
  iintro ⟨Hg, ⟨H0, H1, H2, H3, H4, H5⟩, HS, Hq, Hh, ⟨%W', HW⟩⟩
  isplitl [HS Hg Hq Hh]
  · iexists st'
    isplitr; · ipureintro; exact hst
    isplitl [HS]; · iexact HS
    isplitl [Hg]; · iexact Hg
    isplitl [Hq]; · iexact Hq
    iexact Hh
  isplitl [HW]
  · iexists W'; isplitr; · ipureintro; exact fun _ _ => Or.inl trivial
    iexact HW
  isplitl [H0]; · iexact H0
  isplitl [H1]; · iexact H1
  isplitl [H2]; · iapply h2; iexact H2
  isplitl [H3]; · iapply h3; iexact H3
  isplitl [H4]; · iapply h4; iexact H4
  iapply h5; iexact H5

/-- Output window 2 where the body leaves it alone, and where it stores the closed form. -/
theorem idle_out2 (c : Dev nD) (t : Fin cfg0.N) (h : t.val % 16 < 8) (d) :
    owns (c : Thread nD τ) (ms2 t) fullShare ((dats m 0 c).before 2 t d) ⊢ (dats m 0 c).leavesExact 2 t := by
  rw [Dat.leavesExact_idle (dats m 0 c) 2 t (idle2 t h) (keep2 t h)]
  iintro H; iexists d; iexact H
theorem live_out2 (c : Dev nD) (t : Fin cfg0.N) (h : 8 ≤ t.val % 16) (y : Vec F S1024x1024 .f32) (hy : y = wV m c (t.val / 16) (t.val % 8)) :
    owns (c : Thread nD τ) (ms2 t) fullShare y ⊢ (dats m 0 c).leavesExact 2 t := by
  rw [show (dats m 0 c).leavesExact 2 t = owns (c : Thread nD τ) (ms2 t) fullShare ((dats m 0 c).after 2 t) from by
    unfold Dat.leavesExact; rw [show cfg0.idle 2 (cfg0.grid.coords t) = false from live2 t h], after_2, hy]

/-- Output window 3 where the body leaves it alone, and where it stores the closed form. -/
theorem idle_out3 (c : Dev nD) (t : Fin cfg0.N) (h : t.val % 16 ≠ 15) (d) :
    owns (c : Thread nD τ) (ms3 t) fullShare ((dats m 0 c).before 3 t d) ⊢ (dats m 0 c).leavesExact 3 t := by
  rw [Dat.leavesExact_idle (dats m 0 c) 3 t (idle3 t h) (keep3 t h)]
  iintro H; iexists d; iexact H
theorem live_out3 (c : Dev nD) (t : Fin cfg0.N) (h : t.val % 16 = 15) (y : Vec F S1024x128 .f32) (hy : y = actV m c (t.val / 16) 7) :
    owns (c : Thread nD τ) (ms3 t) fullShare y ⊢ (dats m 0 c).leavesExact 3 t := by
  rw [show (dats m 0 c).leavesExact 3 t = owns (c : Thread nD τ) (ms3 t) fullShare ((dats m 0 c).after 3 t) from by
    unfold Dat.leavesExact; rw [show cfg0.idle 3 (cfg0.grid.coords t) = false from live3 t h], after_3, hy]

/-- Output window 4 where the body leaves it alone, and where it stores the closed form. -/
theorem idle_out4 (c : Dev nD) (t : Fin cfg0.N) (h : t.val % 16 ≠ 15) (d) :
    owns (c : Thread nD τ) (ms4 t) fullShare ((dats m 0 c).before 4 t d) ⊢ (dats m 0 c).leavesExact 4 t := by
  rw [Dat.leavesExact_idle (dats m 0 c) 4 t (idle4 t h) (keep4 t h)]
  iintro H; iexists d; iexact H
theorem live_out4 (c : Dev nD) (t : Fin cfg0.N) (h : t.val % 16 = 15) (y : Vec F S1024x1 .f32) (hy : y = entV m c (t.val / 16)) :
    owns (c : Thread nD τ) (ms4 t) fullShare y ⊢ (dats m 0 c).leavesExact 4 t := by
  rw [show (dats m 0 c).leavesExact 4 t = owns (c : Thread nD τ) (ms4 t) fullShare ((dats m 0 c).after 4 t) from by
    unfold Dat.leavesExact; rw [show cfg0.idle 4 (cfg0.grid.coords t) = false from live4 t h], after_4, hy]

/-- Output window 5 where the body leaves it alone, and where it stores the closed form. -/
theorem idle_out5 (c : Dev nD) (t : Fin cfg0.N) (h : t.val % 16 ≠ 15) (d) :
    owns (c : Thread nD τ) (ms5 t) fullShare ((dats m 0 c).before 5 t d) ⊢ (dats m 0 c).leavesExact 5 t := by
  rw [Dat.leavesExact_idle (dats m 0 c) 5 t (idle5 t h) (keep5 t h)]
  iintro H; iexists d; iexact H
theorem live_out5 (c : Dev nD) (t : Fin cfg0.N) (h : t.val % 16 = 15) (y : Vec F S1024x1 .i32) (hy : y = amV m c (t.val / 16) 8) :
    owns (c : Thread nD τ) (ms5 t) fullShare y ⊢ (dats m 0 c).leavesExact 5 t := by
  rw [show (dats m 0 c).leavesExact 5 t = owns (c : Thread nD τ) (ms5 t) fullShare ((dats m 0 c).after 5 t) from by
    unfold Dat.leavesExact; rw [show cfg0.idle 5 (cfg0.grid.coords t) = false from live5 t h], after_5, hy]

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before_0, before_1]
  rw [show (dats m 0 c).Φ t.castSucc = Phi m c t.val from rfl]
  unfold Phi Dat.owesAt Pipeline.owesWithin
  rw [show (dats m 0 c).owed t.castSucc = 0 from rfl]
  iintro ⟨⟨%st, %hst, HS, Hg, Hq, Hh⟩, ⟨%W, -, HW⟩, ⟨%d0, H0⟩, ⟨%d1, H1⟩, ⟨%d2, H2⟩, ⟨%d3, H3⟩, ⟨%d4, H4⟩, ⟨%d5, H5⟩⟩
  have hstep : ∀ (n : ℕ) (st' : St F), Inv m c (t.val / 16) (t.val % 16 + 1) st' → ((t.val + 1) % 16 ≠ 0 → Inv m c ((t.val + 1) / 16) ((t.val + 1) % 16) st') := fun _ st' h h' => by
    rw [show (t.val + 1) / 16 = t.val / 16 from by omega, show (t.val + 1) % 16 = t.val % 16 + 1 from by omega]; exact h
  by_cases h8 : t.val % 16 < 8
  · by_cases h0 : t.val % 16 = 0
    · iapply (run_init c (grid0.coords t) (ms0 t) _ (ms1 t) _ (ms2 t) _ (ms3 t) _ (ms4 t) _ (ms5 t) _ scE _ scHn _ scS _ scDot _ scM _ scAm _ scAct _ ((isInit_iff t).mpr (by omega)) ((isSweep0_iff t).mpr (by omega)) (fun h => absurd ((isSweep1_iff t).mp h) (by omega)) (iblk m c 0 t) (iblk m c 1 t) _ _ _ _ st (V m c main_arg0) W _)
      isplitl [H0 H1 H2 H3 H4 H5]
      · unfold ownWin
        isplitl [H0]; · iexact H0
        isplitl [H1]; · iexact H1
        isplitl [H2]; · iexact H2
        isplitl [H3]; · iexact H3
        isplitl [H4]; · iexact H4
        iexact H5
      isplitl [HS]; · iexact HS
      isplitl [Hq]; · iexact Hq
      isplitl [Hh]; · iexact Hh
      isplitl [HW]; · iexact HW
      iintro ⟨HWn, HS, Hq, Hh, HW⟩
      iapply (post_of m c t _ _ _ _ _ (hstep 0 _ (inv_init m c t h0 _ st)) (idle_out2 m c t h8 d2) (idle_out3 m c t (by omega) d3) (idle_out4 m c t (by omega) d4) (idle_out5 m c t (by omega) d5))
      isplitl [Hg]; · iexact Hg
      isplitl [HWn]; · iexact HWn
      isplitl [HS]; · iexact HS
      isplitl [Hq]; · iexact Hq
      isplitl [Hh]; · iexact Hh
      iexact HW
    · iapply (run_sweep0 c (grid0.coords t) (ms0 t) _ (ms1 t) _ (ms2 t) _ (ms3 t) _ (ms4 t) _ (ms5 t) _ scE _ scHn _ scS _ scDot _ scM _ scAm _ scAct _ (fun h => absurd ((isInit_iff t).mp h) (by omega)) ((isSweep0_iff t).mpr (by omega)) (fun h => absurd ((isSweep1_iff t).mp h) (by omega)) (iblk m c 0 t) (iblk m c 1 t) _ _ _ _ st (V m c main_arg0) W _)
      isplitl [H0 H1 H2 H3 H4 H5]
      · unfold ownWin
        isplitl [H0]; · iexact H0
        isplitl [H1]; · iexact H1
        isplitl [H2]; · iexact H2
        isplitl [H3]; · iexact H3
        isplitl [H4]; · iexact H4
        iexact H5
      isplitl [HS]; · iexact HS
      isplitl [Hq]; · iexact Hq
      isplitl [Hh]; · iexact Hh
      isplitl [HW]; · iexact HW
      iintro ⟨HWn, HS, Hq, Hh, HW⟩
      iapply (post_of m c t _ _ _ _ _ (hstep 0 _ (inv_next m c t h8 st (hst h0))) (idle_out2 m c t h8 d2) (idle_out3 m c t (by omega) d3) (idle_out4 m c t (by omega) d4) (idle_out5 m c t (by omega) d5))
      isplitl [Hg]; · iexact Hg
      isplitl [HWn]; · iexact HWn
      isplitl [HS]; · iexact HS
      isplitl [Hq]; · iexact Hq
      isplitl [Hh]; · iexact Hh
      iexact HW
  · have hI := hst (by omega)
    have hw := (wBlk_eq m c t (by omega) st hI).2.2
    by_cases hk : t.val % 16 = 8
    · iapply (run_first c (grid0.coords t) (ms0 t) _ (ms1 t) _ (ms2 t) _ (ms3 t) _ (ms4 t) _ (ms5 t) _ scE _ scHn _ scS _ scDot _ scM _ scAm _ scAct _ (fun h => absurd ((isInit_iff t).mp h) (by omega)) (fun h => absurd ((isSweep0_iff t).mp h) (by omega)) ((isSweep1_iff t).mpr (by omega)) ((isTile0_iff t).mpr (by omega)) (fun h => absurd ((isTilePos_iff t).mp h) (by omega)) (fun h => absurd ((isTile7_iff t).mp h) (by omega)) (iblk m c 0 t) (iblk m c 1 t) _ _ _ _ st (V m c main_arg0) W _)
      isplitl [H0 H1 H2 H3 H4 H5]
      · unfold ownWin
        isplitl [H0]; · iexact H0
        isplitl [H1]; · iexact H1
        isplitl [H2]; · iexact H2
        isplitl [H3]; · iexact H3
        isplitl [H4]; · iexact H4
        iexact H5
      isplitl [HS]; · iexact HS
      isplitl [Hq]; · iexact Hq
      isplitl [Hh]; · iexact Hh
      isplitl [HW]; · iexact HW
      iintro ⟨HWn, HS, Hq, Hh, HW⟩
      iapply (post_of m c t _ _ _ _ _ (hstep 0 _ (inv_sweep1 m c t (by omega) st hI _ (act0_eq m c t hk st hI))) (live_out2 m c t (by omega) _ hw) (idle_out3 m c t (by omega) d3) (idle_out4 m c t (by omega) d4) (idle_out5 m c t (by omega) d5))
      isplitl [Hg]; · iexact Hg
      isplitl [HWn]; · iexact HWn
      isplitl [HS]; · iexact HS
      isplitl [Hq]; · iexact Hq
      isplitl [Hh]; · iexact Hh
      iexact HW
    · by_cases hl : t.val % 16 = 15
      · have hA := inv_sweep1 m c t (by omega) st hI _ (actS_eq m c t (by omega) st hI)
        iapply (run_last c (grid0.coords t) (ms0 t) _ (ms1 t) _ (ms2 t) _ (ms3 t) _ (ms4 t) _ (ms5 t) _ scE _ scHn _ scS _ scDot _ scM _ scAm _ scAct _ (fun h => absurd ((isInit_iff t).mp h) (by omega)) (fun h => absurd ((isSweep0_iff t).mp h) (by omega)) ((isSweep1_iff t).mpr (by omega)) (fun h => absurd ((isTile0_iff t).mp h) (by omega)) ((isTilePos_iff t).mpr (by omega)) ((isTile7_iff t).mpr (by omega)) (iblk m c 0 t) (iblk m c 1 t) _ _ _ _ st (V m c main_arg0) W _)
        isplitl [H0 H1 H2 H3 H4 H5]
        · unfold ownWin
          isplitl [H0]; · iexact H0
          isplitl [H1]; · iexact H1
          isplitl [H2]; · iexact H2
          isplitl [H3]; · iexact H3
          isplitl [H4]; · iexact H4
          iexact H5
        isplitl [HS]; · iexact HS
        isplitl [Hq]; · iexact Hq
        isplitl [Hh]; · iexact Hh
        isplitl [HW]; · iexact HW
        iintro ⟨HWn, HS, Hq, Hh, HW⟩
        iapply (post_of m c t _ _ _ _ _ (fun h => absurd h (by omega)) (live_out2 m c t (by omega) _ hw) (live_out3 m c t hl _ ((actS_eq m c t (by omega) st hI).trans (by rw [show t.val % 8 = 7 from by omega]))) (live_out4 m c t hl _ (ent_eq m c t hl st hI)) (live_out5 m c t hl _ (am_eq m c t hl _ hA)))
        isplitl [Hg]; · iexact Hg
        isplitl [HWn]; · iexact HWn
        isplitl [HS]; · iexact HS
        isplitl [Hq]; · iexact Hq
        isplitl [Hh]; · iexact Hh
        iexact HW
      · iapply (run_mid c (grid0.coords t) (ms0 t) _ (ms1 t) _ (ms2 t) _ (ms3 t) _ (ms4 t) _ (ms5 t) _ scE _ scHn _ scS _ scDot _ scM _ scAm _ scAct _ (fun h => absurd ((isInit_iff t).mp h) (by omega)) (fun h => absurd ((isSweep0_iff t).mp h) (by omega)) ((isSweep1_iff t).mpr (by omega)) (fun h => absurd ((isTile0_iff t).mp h) (by omega)) ((isTilePos_iff t).mpr (by omega)) (fun h => absurd ((isTile7_iff t).mp h) (by omega)) (iblk m c 0 t) (iblk m c 1 t) _ _ _ _ st (V m c main_arg0) W _)
        isplitl [H0 H1 H2 H3 H4 H5]
        · unfold ownWin
          isplitl [H0]; · iexact H0
          isplitl [H1]; · iexact H1
          isplitl [H2]; · iexact H2
          isplitl [H3]; · iexact H3
          isplitl [H4]; · iexact H4
          iexact H5
        isplitl [HS]; · iexact HS
        isplitl [Hq]; · iexact Hq
        isplitl [Hh]; · iexact Hh
        isplitl [HW]; · iexact HW
        iintro ⟨HWn, HS, Hq, Hh, HW⟩
        iapply (post_of m c t _ _ _ _ _ (hstep 0 _ (inv_sweep1 m c t (by omega) st hI _ (actS_eq m c t (by omega) st hI))) (live_out2 m c t (by omega) _ hw) (idle_out3 m c t (by omega) d3) (idle_out4 m c t (by omega) d4) (idle_out5 m c t (by omega) d5))
        isplitl [Hg]; · iexact Hg
        isplitl [HWn]; · iexact HWn
        isplitl [HS]; · iexact HS
        isplitl [Hq]; · iexact Hq
        isplitl [Hh]; · iexact Hh
        iexact HW

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch's hand-over is the invariant before the first point. -/
theorem hin (c : Dev nD) : Pipeline.ΦD osem spec0 hbmRefs (V m) c ⊢ (dats m 0 c).Φ 0 := by
  rw [show (dats m 0 c).Φ 0 = Phi m c 0 from rfl, PhiD_eq]
  unfold Phi ownSt
  iintro ⟨⟨⟨%e, HS0⟩, ⟨%hn, HS1⟩, ⟨%s, HS2⟩, ⟨%dt, HS3⟩, ⟨%mx, HS4⟩, ⟨%am, HS5⟩, ⟨%act, HS6⟩⟩, Hg, Hq, Hh⟩
  iexists (⟨e, hn, s, dt, mx, am, act⟩ : St F)
  isplitr; · ipureintro; exact fun h => absurd rfl h
  isplitl [HS0 HS1 HS2 HS3 HS4 HS5 HS6]
  · isplitl [HS0]; · iexact HS0
    isplitl [HS1]; · iexact HS1
    isplitl [HS2]; · iexact HS2
    isplitl [HS3]; · iexact HS3
    isplitl [HS4]; · iexact HS4
    isplitl [HS5]; · iexact HS5
    iexact HS6
  isplitl [Hg]; · iexact Hg
  isplitl [Hq]; · iexact Hq
  iexact Hh

/-- After the last point the invariant gives everything back. -/
theorem hout (c : Dev nD) : (dats m 0 c).Φ (Fin.last cfg0.N) ⊢ Pipeline.ΦD osem spec0 hbmRefs (V m) c := by
  rw [show (dats m 0 c).Φ (Fin.last cfg0.N) = Phi m c (Fin.last cfg0.N).val from rfl, PhiD_eq]
  unfold Phi ownSt
  iintro ⟨%st, -, ⟨HS0, HS1, HS2, HS3, HS4, HS5, HS6⟩, Hg, Hq, Hh⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6
  isplitl [Hg]; · iexact Hg
  isplitl [Hq]; · iexact Hq
  iexact Hh

set_option backward.isDefEq.respectTransparency.types false in
set_option maxHeartbeats 800000 in
/-- The launch: every array of the pipeline ends at what the proof data says, every other buffer as the host lines leave it, and
    every semaphore at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem defs₀ Variants.none osemFacts hbmRefs hbmRefs_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m Variants.none) (hA := A_eq m) (hin := hin m) (hout := hout m)

/-- The arguments end as launched and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Pipeline.mem_restRefs_of main_arg0 (by decide) (by decide))).trans (tail_arg0 m (dats m) c),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c)))⟩, h.2⟩) (run_quiescent m ρ)

end Cert.KernelIdeal.Proof

end
-- ==== Proof.KernelIdealArrays.lean ====
/- The kernel's results at the end of a run, element by element: each row of an output array is a row of its row block's closed
   form; and the input blocks, element by element, are the argument arrays. -/
module

public import proofs.«01_k».proof.Proof.KernelIdealFrame
public import Idealize.ShloMosaic.Lib.Pointwise
public import Idealize.ShloMosaic.Lib.Pipeline.ValueKit

@[expose] public section

set_option maxRecDepth 16384

noncomputable section

namespace Cert.KernelIdeal.Proof

open Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## Where a block lies -/

theorem idx0 : ∀ t : Fin cfg0.N, t.val % 16 < 8 → win0_0.index t = ![t.val % 8, 0] := by decide +kernel
theorem idx1 : ∀ t : Fin cfg0.N, 8 ≤ t.val % 16 → win0_1.index t = ![t.val % 8, 0] := by decide +kernel
theorem idx2 : ∀ t : Fin cfg0.N, (cfg0.win 2).flush t = true → win0_2.index t = ![t.val / 16, t.val % 8] := by decide +kernel
theorem idx3 : ∀ t : Fin cfg0.N, (cfg0.win 3).flush t = true → win0_3.index t = ![t.val / 16, 0] := by decide +kernel
theorem idx4 : ∀ t : Fin cfg0.N, (cfg0.win 4).flush t = true → win0_4.index t = ![t.val / 16, 0] := by decide +kernel
theorem idx5 : ∀ t : Fin cfg0.N, (cfg0.win 5).flush t = true → win0_5.index t = ![t.val / 16, 0] := by decide +kernel

/-- Row block and row of a row of the arrays. -/
abbrev lo {n : ℕ} (r : Fin n) : Fin 1024 := ⟨r.val % 1024, Nat.mod_lt _ (by decide)⟩

/-! ## The output arrays -/

/-- The weights' array. -/
theorem arr_weights (c : Dev nD) : (dats m 0 c).arrAt 2 cfg0.N = fun x : S4096x8192.Idx => wV m c ((x 0).val / 1024) ((x 1).val / 1024) (ix2 (lo (x 0)) (lo (x 1))) := by
  refine (dats m 0 c).arrAt_eq_of_covers 2 _ (by decide +kernel) fun t hf y => ?_
  blk_simp [idx2 t hf]
  rw [after_2]
  have h0 : (y 0).val < 1024 := (y 0).isLt
  have h1 : (y 1).val < 1024 := (y 1).isLt
  rw [show (t.val / 16 * 1024 + (y 0).val) / 1024 = t.val / 16 by omega, show (t.val % 8 * 1024 + (y 1).val) / 1024 = t.val % 8 by omega]
  congr 1
  blk_ext [idx2 t hf]
  · show _ = ((win0_2.blk t).view.emb y 0).val % 1024; blk_simp [idx2 t hf]; omega
  · show _ = ((win0_2.blk t).view.emb y 1).val % 1024; blk_simp [idx2 t hf]; omega

/-- The actions' array. -/
theorem arr_actions (c : Dev nD) : (dats m 0 c).arrAt 3 cfg0.N = fun x : S4096x128.Idx => actV m c ((x 0).val / 1024) 7 (ix2 (lo (x 0)) (x 1)) := by
  refine (dats m 0 c).arrAt_eq_of_covers 3 _ (by decide +kernel) fun t hf y => ?_
  blk_simp [idx3 t hf]
  rw [after_3]
  have h0 : (y 0).val < 1024 := (y 0).isLt
  rw [show (t.val / 16 * 1024 + (y 0).val) / 1024 = t.val / 16 by omega]
  congr 1
  blk_ext [idx3 t hf]
  · show _ = ((win0_3.blk t).view.emb y 0).val % 1024; blk_simp [idx3 t hf]; omega

/-- The entropies' array. -/
theorem arr_entropies (c : Dev nD) : (dats m 0 c).arrAt 4 cfg0.N = fun x : S4096x1.Idx => entV m c ((x 0).val / 1024) (ix2 (lo (x 0)) 0) := by
  refine (dats m 0 c).arrAt_eq_of_covers 4 _ (by decide +kernel) fun t hf y => ?_
  blk_simp [idx4 t hf]
  rw [after_4]
  have h0 : (y 0).val < 1024 := (y 0).isLt
  rw [show (t.val / 16 * 1024 + (y 0).val) / 1024 = t.val / 16 by omega]
  congr 1
  blk_ext [idx4 t hf]
  · show _ = ((win0_4.blk t).view.emb y 0).val % 1024; blk_simp [idx4 t hf]; omega

/-- The indices' array. -/
theorem arr_indices (c : Dev nD) : (dats m 0 c).arrAt 5 cfg0.N = fun x : S4096x1.Idx => amV m c ((x 0).val / 1024) 8 (ix2 (lo (x 0)) 0) := by
  refine (dats m 0 c).arrAt_eq_of_covers 5 _ (by decide +kernel) fun t hf y => ?_
  blk_simp [idx5 t hf]
  rw [after_5]
  have h0 : (y 0).val < 1024 := (y 0).isLt
  rw [show (t.val / 16 * 1024 + (y 0).val) / 1024 = t.val / 16 by omega]
  congr 1
  blk_ext [idx5 t hf]
  · show _ = ((win0_5.blk t).view.emb y 0).val % 1024; blk_simp [idx5 t hf]; omega

/-! ## The host lines after the launch -/

theorem arrs_inj : Function.Injective (Pipeline.arrRef spec0) := by
  intro a b; revert a b; decide

/-- The mean entropy: the column's sum over the number of rows. -/
theorem tail_mean (c : Dev nD) : Pipeline.afterTail₀ cfgs (dats m) 0 (V0 m) [hostOps1] c main_v2
    = Host.divf (Host.reduceAdd (fun x : S4096x1.Idx => entV m c ((x 0).val / 1024) (ix2 (lo (x 0)) 0)) (constant S_ .f32 0x00000000#32) reducesTo_S4096x1_S_d0_1 h_S_) (constant S_ .f32 0x45800000#32) := by
  rw [← arr_entropies, ← Pipeline.withArrays_arr spec0 arrs_inj c (V0 m c) (fun w => (dats m 0 c).arrAt w cfg0.N) 4]
  unfold Pipeline.afterTail₀
  simp only [hostOps1, List.flatten_cons, List.flatten_nil, List.append_nil]
  after_results_simp

/-- The indices as a vector. -/
theorem tail_index (c : Dev nD) : Pipeline.afterTail₀ cfgs (dats m) 0 (V0 m) [hostOps1] c main_v3
    = shapeCast S4096 (fun x : S4096x1.Idx => amV m c ((x 0).val / 1024) 8 (ix2 (lo (x 0)) 0)) shapeCasts_S4096x1_S4096 := by
  rw [← arr_indices, ← Pipeline.withArrays_arr spec0 arrs_inj c (V0 m c) (fun w => (dats m 0 c).arrAt w cfg0.N) 5]
  unfold Pipeline.afterTail₀
  simp only [hostOps1, List.flatten_cons, List.flatten_nil, List.append_nil]
  after_results_simp
  rfl

/-! ## The input blocks -/

theorem coords_init : ∀ i : Fin 4, (grid0.coords (pt (16 * i.val)) 0).val = i.val := by decide +kernel

/-- A row of a row block of the embeddings. -/
abbrev row (i : Fin 4) (r : Fin 1024) : Fin 4096 := ⟨1024 * i.val + r.val, by omega⟩
/-- A row of a tile of the prototypes. -/
abbrev tile (k : Fin 8) (q : Fin 1024) : Fin 8192 := ⟨1024 * k.val + q.val, by omega⟩

theorem hB_apply (c : Dev nD) (i : Fin 4) (r l : Fin 1024) : hB m c i.val (ix2 r l) = m ((c.tc : Thread nD τ).loc main_arg0) (ix2 (row i r) l) := by
  unfold hB rowBlk
  rw [V_main_arg0]
  show m ((c.tc : Thread nD τ).loc main_arg0) _ = _
  congr 1
  have h := coords_init i
  funext a
  refine Fin.ext ?_
  match a with
  | ⟨0, _⟩ => show k0_off1 _ 0 + 1 * r.val = 1024 * i.val + r.val; rw [k0_off1_eq]; show 1024 * _ + _ = _; rw [h]; omega
  | ⟨1, _⟩ => show k0_off1 (grid0.coords (pt (16 * i.val))) 1 + 1 * l.val = l.val; rw [k0_off1_eq]; show 0 + 1 * l.val = l.val; omega

theorem pB_apply (c : Dev nD) (i : Fin 4) (k : Fin 8) (q l : Fin 1024) :
    pB m c i.val k.val (ix2 q l) = m ((c.tc : Thread nD τ).loc main_arg1) (ix2 (tile k q) l) := by
  have hv : (pt (16 * i.val + k.val)).val = 16 * i.val + k.val := Nat.mod_eq_of_lt (by omega)
  have e := idx0 (pt (16 * i.val + k.val)) (by rw [hv]; omega)
  have hk : (16 * i.val + k.val) % 8 = k.val := by omega
  rw [hv, hk] at e
  unfold pB
  blk_simp [iblk]
  rw [V_main_arg1]
  blk_ext [e]

theorem aB_apply (c : Dev nD) (i : Fin 4) (k : Fin 8) (q : Fin 1024) (d : Fin 128) :
    aB m c i.val k.val (ix2 q d) = m ((c.tc : Thread nD τ).loc main_arg2) (ix2 (tile k q) d) := by
  have hv : (pt (16 * i.val + 8 + k.val)).val = 16 * i.val + 8 + k.val := Nat.mod_eq_of_lt (by omega)
  have e := idx1 (pt (16 * i.val + 8 + k.val)) (by rw [hv]; omega)
  have hk : (16 * i.val + 8 + k.val) % 8 = k.val := by omega
  rw [hv, hk] at e
  unfold aB
  blk_simp [iblk]
  rw [V_main_arg2]
  blk_ext [e]

/-! ## The run, result by result -/

/-- Every weakly fair run ends with each result at its closed form and the arguments unchanged. -/
theorem run : θ_run defs (onTc (τ := τ) (main (F := F))) ⟨m, fun _ => 0, ρ⟩ fun r => ∀ c : Dev nD,
      r.2.mem ((c.tc : Thread nD τ).loc main_v0_1) = (fun x : S4096x128.Idx => actV m c ((x 0).val / 1024) 7 (ix2 (lo (x 0)) (x 1)))
      ∧ r.2.mem ((c.tc : Thread nD τ).loc main_v0_0) = (fun x : S4096x8192.Idx => wV m c ((x 0).val / 1024) ((x 1).val / 1024) (ix2 (lo (x 0)) (lo (x 1))))
      ∧ r.2.mem ((c.tc : Thread nD τ).loc main_v2) = Host.divf (Host.reduceAdd (fun x : S4096x1.Idx => entV m c ((x 0).val / 1024) (ix2 (lo (x 0)) 0)) (constant S_ .f32 0x00000000#32) reducesTo_S4096x1_S_d0_1 h_S_) (constant S_ .f32 0x45800000#32)
      ∧ r.2.mem ((c.tc : Thread nD τ).loc main_v3) = shapeCast S4096 (fun x : S4096x1.Idx => amV m c ((x 0).val / 1024) 8 (ix2 (lo (x 0)) 0)) shapeCasts_S4096x1_S4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h.1 c).1 3).trans (arr_actions m c), ((h.1 c).1 2).trans (arr_weights m c),
      ((h.1 c).2 main_v2 (Pipeline.mem_restRefs_of main_v2 (by decide) (by decide))).trans (tail_mean m c),
      ((h.1 c).2 main_v3 (Pipeline.mem_restRefs_of main_v3 (by decide) (by decide))).trans (tail_index m c),
      ((h.1 c).2 main_arg0 (Pipeline.mem_restRefs_of main_arg0 (by decide) (by decide))).trans (tail_arg0 m (dats m) c),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c)))⟩) (run_quiescent m ρ)

end Cert.KernelIdeal.Proof

end
-- ==== Proof.Extended.lean ====
/- Facts about extended reals that both programs' values rest on: a normalised row is always finite, a softmax of finite
   scores does not depend on the shift, an entropy in two spellings, and a sum taken tile by tile. -/
module

public import Idealize.ShloMosaic.PureOps.Ideal

@[expose] public section

noncomputable section

namespace Cert.Attend

open Idealize.ShloMosaic

/-! ## Constants -/

/-- The clip of a norm, as a real. -/
def clip : ℝ := (2 ^ 23 + 834764 : ℕ) * (2 : ℝ) ^ (-63 : ℤ)

theorem clip_pos : 0 < clip := by unfold clip; positivity

theorem ofBits_clip : Ideal.ofBits .f32 (730643660#32 : BitVec 32) = (clip : EReal) := by
  have e1 : ((730643660#32 : BitVec 32).extractLsb' (8 + 23) 1 == 1#1) = false := by decide
  have e2 : ((730643660#32 : BitVec 32).extractLsb' 23 8).toNat = 87 := by decide
  have e3 : ((730643660#32 : BitVec 32).extractLsb' 0 23).toNat = 834764 := by decide
  show Ideal.ieee 8 23 (730643660#32 : BitVec 32) = _
  unfold Ideal.ieee clip
  simp only [e1, e2, e3]
  norm_num

theorem ofBits_negInf : Ideal.ofBits .f32 (4286578688#32 : BitVec 32) = ⊥ := by
  have e1 : ((4286578688#32 : BitVec 32).extractLsb' (8 + 23) 1 == 1#1) = true := by decide
  have e2 : ((4286578688#32 : BitVec 32).extractLsb' 23 8).toNat = 255 := by decide
  have e3 : ((4286578688#32 : BitVec 32).extractLsb' 0 23).toNat = 0 := by decide
  show Ideal.ieee 8 23 (4286578688#32 : BitVec 32) = _
  unfold Ideal.ieee
  simp only [e1, e2, e3]
  norm_num

theorem ofBits_rows : Ideal.ofBits .f32 (1166016512#32 : BitVec 32) = ((4096 : ℝ) : EReal) := by
  have e1 : ((1166016512#32 : BitVec 32).extractLsb' (8 + 23) 1 == 1#1) = false := by decide
  have e2 : ((1166016512#32 : BitVec 32).extractLsb' 23 8).toNat = 139 := by decide
  have e3 : ((1166016512#32 : BitVec 32).extractLsb' 0 23).toNat = 0 := by decide
  show Ideal.ieee 8 23 (1166016512#32 : BitVec 32) = _
  unfold Ideal.ieee
  simp only [e1, e2, e3]
  norm_num

/-! ## Sums -/

/-- A finite sum of reals is the real sum. -/
theorem sum_coe {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-- Column `1024 k + l` of 8192. -/
def col (k : Fin 8) (l : Fin 1024) : Fin 8192 := ⟨1024 * k.val + l.val, by omega⟩

/-- A sum over 8192 columns taken as eight tiles of 1024. -/
theorem sum_tiles {M : Type} [AddCommMonoid M] (f : Fin 8192 → M) : ∑ q, f q = ∑ k : Fin 8, ∑ l : Fin 1024, f (col k l) := by
  rw [← Finset.sum_product', Finset.univ_product_univ]
  symm
  refine Finset.sum_bij' (fun x _ => col x.1 x.2)
    (fun q _ => ((⟨q.val / 1024, by omega⟩ : Fin 8), (⟨q.val % 1024, by omega⟩ : Fin 1024))) ?_ ?_ ?_ ?_ ?_
  · intros; exact Finset.mem_univ _
  · intros; exact Finset.mem_univ _
  · rintro ⟨k, l⟩ _
    refine Prod.ext (Fin.ext ?_) (Fin.ext ?_)
    · show (1024 * k.val + l.val) / 1024 = k.val; omega
    · show (1024 * k.val + l.val) % 1024 = l.val; omega
  · intro q _; refine Fin.ext ?_; show 1024 * (q.val / 1024) + q.val % 1024 = q.val; omega
  · intros; rfl

/-- A running sum from `init` that takes in one term a step. -/
theorem run_sum {M : Type} [AddCommMonoid M] (s T : ℕ → M) (h0 : s 0 = 0) (h : ∀ k, s (k + 1) = s k + T k) (n : ℕ) :
    s n = ∑ k : Fin n, T k.val := by
  induction n with
  | zero => simpa using h0
  | succ n ih => rw [h, ih, Fin.sum_univ_castSucc]; rfl

/-! ## A normalised row is finite -/

/-- Entry `l` of row `x` divided by the row's clipped norm. -/
def unit {n : ℕ} (x : Fin n → EReal) (l : Fin n) : EReal :=
  Ideal.div (x l) (max (Ideal.ofBits .f32 (730643660#32 : BitVec 32)) (Ideal.sqrt (∑ k, x k * x k)))

theorem sq_nonneg' (x : EReal) : 0 ≤ x * x := by
  induction x with
  | bot => simp
  | top => simp
  | coe v => rw [← EReal.coe_mul]; exact EReal.coe_nonneg.mpr (mul_self_nonneg v)

theorem unit_real {n : ℕ} (x : Fin n → EReal) (l : Fin n) : ∃ v : ℝ, unit x l = (v : EReal) := by
  have hnn : ∀ k, 0 ≤ x k * x k := fun k => sq_nonneg' (x k)
  have hS : 0 ≤ ∑ k, x k * x k := Finset.sum_nonneg fun k _ => hnn k
  have hle : x l * x l ≤ ∑ k, x k * x k := Finset.single_le_sum (f := fun k => x k * x k) (fun k _ => hnn k) (Finset.mem_univ l)
  unfold unit
  rw [ofBits_clip]
  generalize (∑ k, x k * x k) = S at hS hle
  induction S with
  | bot => exact absurd hS (by simp)
  | top =>
    refine ⟨0, ?_⟩
    rw [Ideal.sqrt_top, max_eq_right le_top]
    unfold Ideal.div
    simp
  | coe s =>
    have hs : 0 ≤ s := by exact_mod_cast hS
    obtain ⟨v, hv⟩ : ∃ v : ℝ, x l = (v : EReal) := by
      generalize x l = y at hle
      induction y with
      | bot => exact absurd hle (by simp)
      | top => exact absurd hle (by simp)
      | coe v => exact ⟨v, rfl⟩
    rw [hv, Ideal.sqrt_coe, if_neg (not_lt.mpr hs), ← EReal.coe_strictMono.monotone.map_max, Ideal.div_coe (ne_of_gt (lt_max_of_lt_left clip_pos))]
    exact ⟨_, (EReal.coe_mul _ _).symm⟩

/-- The inner product of two normalised rows. -/
def score {n : ℕ} (x y : Fin n → EReal) : EReal := ∑ k, unit x k * unit y k

theorem score_real {n : ℕ} (x y : Fin n → EReal) : ∃ v : ℝ, score x y = (v : EReal) := by
  choose u hu using unit_real x
  choose v hv using unit_real y
  exact ⟨∑ k, u k * v k, by unfold score; rw [← sum_coe]; exact Finset.sum_congr rfl fun k _ => by rw [hu, hv, EReal.coe_mul]⟩

/-! ## Softmax and entropy of one row of finite scores -/

section Row

variable {n : ℕ} (z : Fin n → ℝ)

/-- The sum of a row's exponentials. -/
def total : ℝ := ∑ q, Real.exp (z q)

theorem total_pos [NeZero n] : 0 < total z := Finset.sum_pos (fun q _ => Real.exp_pos _) Finset.univ_nonempty

/-- A row's weight. -/
def weight (q : Fin n) : ℝ := Real.exp (z q) / total z

theorem weight_pos [NeZero n] (q : Fin n) : 0 < weight z q := div_pos (Real.exp_pos _) (total_pos z)

theorem weight_sum [NeZero n] : ∑ q, weight z q = 1 := by
  unfold weight; rw [← Finset.sum_div]; exact div_self (ne_of_gt (total_pos z))

/-- The sum of the exponentials, each times its score. -/
def dotted : ℝ := ∑ q, Real.exp (z q) * z q

/-- The row's entropy from its exponentials' sum and its dotted sum. -/
def entropy : ℝ := Real.log (total z) - dotted z * (1 / total z)

/-- The same from the weights. -/
theorem entropy_weights [NeZero n] : ∑ q, weight z q * Real.log (weight z q) = - entropy z := by
  have hl : ∀ q, Real.log (weight z q) = z q - Real.log (total z) := fun q => by
    unfold weight; rw [Real.log_div (ne_of_gt (Real.exp_pos _)) (ne_of_gt (total_pos z)), Real.log_exp]
  have hd : ∑ q, weight z q * z q = dotted z * (1 / total z) := by
    unfold weight dotted; rw [Finset.sum_mul]; exact Finset.sum_congr rfl fun q _ => by ring
  simp only [hl, mul_sub, Finset.sum_sub_distrib, ← Finset.sum_mul, weight_sum, hd]
  unfold entropy; ring

/-- The quotient of shifted exponentials is the weight. -/
theorem weight_shift (M : ℝ) (q : Fin n) : Real.exp (z q - M) / ∑ p, Real.exp (z p - M) = weight z q := by
  unfold weight total
  simp only [Real.exp_sub]
  rw [← Finset.sum_div]
  exact div_div_div_cancel_right₀ (ne_of_gt (Real.exp_pos M)) _ _

end Row

/-- The maximum of a nonempty row of reals, started at the bottom, is a real. -/
theorem fold_max_real {n : ℕ} [NeZero n] (z : Fin n → ℝ) :
    ∃ M : ℝ, Finset.univ.fold max (⊥ : EReal) (fun q => (z q : EReal)) = (M : EReal) := by
  refine ⟨Finset.univ.sup' Finset.univ_nonempty z, ?_⟩
  refine le_antisymm ?_ ?_
  · refine (Finset.fold_max_le _).mpr ⟨bot_le, fun q hq => ?_⟩
    exact EReal.coe_le_coe_iff.mpr (Finset.le_sup' z hq)
  · obtain ⟨q, hq, e⟩ := Finset.exists_mem_eq_sup' Finset.univ_nonempty z
    rw [e]
    exact (Finset.le_fold_max _).mpr (.inr ⟨q, hq, le_refl _⟩)

end Cert.Attend

end
-- ==== Proof.FirstMax.lean ====
/- The first greatest entry of a row: picked by a fold over (value, index) pairs, by a tile's maximum and minimum, and by a running
   maximum over tiles that only a strictly greater tile replaces. -/
module

public import proofs.«01_k».proof.Proof.Extended
public import Idealize.ShloMosaic.PureOps.Ideal.Laws
public import Idealize.ShloMosaic.Lib.SortNet.Extract

@[expose] public section

noncomputable section

namespace Cert.Attend

open Idealize.ShloMosaic

/-- `b` is the first place of the row's greatest entry. -/
def First {n : ℕ} (w : Fin n → EReal) (b : Fin n) : Prop := ∀ j, w j ≤ w b ∧ (j < b → w j < w b)

theorem exists_first {n : ℕ} [NeZero n] (w : Fin n → EReal) : ∃ b, First w b := by
  classical
  obtain ⟨c, -, hc⟩ := Finset.exists_max_image (Finset.univ : Finset (Fin n)) w Finset.univ_nonempty
  have hne : (Finset.univ.filter fun b => w b = w c).Nonempty := ⟨c, by simp⟩
  obtain ⟨b, hb, hmin⟩ := Finset.exists_min_image _ (fun b : Fin n => b) hne
  have hbc : w b = w c := (Finset.mem_filter.mp hb).2
  refine ⟨b, fun j => ⟨by rw [hbc]; exact hc j (Finset.mem_univ _), fun hj => ?_⟩⟩
  refine lt_of_le_of_ne (by rw [hbc]; exact hc j (Finset.mem_univ _)) fun e => ?_
  exact absurd (hmin j (Finset.mem_filter.mpr ⟨Finset.mem_univ _, e.trans hbc⟩)) (not_le.mpr hj)

theorem toInt_ofNat_small (n : ℕ) (h : n < 2 ^ 31) : (BitVec.ofNat 32 n).toInt = n := by
  rw [BitVec.toInt_eq_toNat_cond, BitVec.toNat_ofNat, Nat.mod_eq_of_lt (by omega), if_pos (by omega)]

/-! ## A fold over pairs -/

/-- The pair `q` is no better than `p`. -/
def Le (q p : EReal × BitVec 32) : Prop := q.1 < p.1 ∨ (q.1 = p.1 ∧ p.2.toInt ≤ q.2.toInt)

theorem Le.refl (p : EReal × BitVec 32) : Le p p := .inr ⟨rfl, le_refl _⟩

theorem Le.trans {a b c : EReal × BitVec 32} (h : Le a b) (h' : Le b c) : Le a c := by
  rcases h with h | ⟨h, i⟩ <;> rcases h' with h' | ⟨h', i'⟩
  · exact .inl (h.trans h')
  · exact .inl (h' ▸ h)
  · exact .inl (h ▸ h')
  · exact .inr ⟨h.trans h', i'.trans i⟩

/-- A fold whose step keeps one of its two pairs, the better, ends at a pair of the list that no pair beats. -/
theorem foldl_best (f : EReal × BitVec 32 → EReal × BitVec 32 → EReal × BitVec 32)
    (hf : ∀ a b, (f a b = a ∧ Le b a) ∨ (f a b = b ∧ Le a b)) (l : List (EReal × BitVec 32)) :
    ∀ i, (l.foldl f i = i ∨ l.foldl f i ∈ l) ∧ Le i (l.foldl f i) ∧ ∀ q ∈ l, Le q (l.foldl f i) := by
  induction l with
  | nil => intro i; exact ⟨.inl rfl, Le.refl _, fun q hq => by simp at hq⟩
  | cons a l ih =>
    intro i
    obtain ⟨h1, h2, h3⟩ := ih (f i a)
    rw [List.foldl_cons]
    rcases hf i a with ⟨e, hle⟩ | ⟨e, hle⟩ <;> rw [e] at h1 h2 h3 ⊢
    · refine ⟨h1.imp id fun h => List.mem_cons_of_mem _ h, h2, fun q hq => ?_⟩
      rcases List.mem_cons.mp hq with rfl | hq
      · exact hle.trans h2
      · exact h3 q hq
    · refine ⟨.inr (h1.elim (fun h => by rw [h]; exact List.mem_cons_self) fun h => List.mem_cons_of_mem _ h), hle.trans h2, fun q hq => ?_⟩
      rcases List.mem_cons.mp hq with rfl | hq
      · exact h2
      · exact h3 q hq

/-- Over pairs of a row's entries with their indices, from the bottom, that pair has the first greatest entry's index. -/
theorem foldl_first {n : ℕ} (hn : n ≤ 2 ^ 31) (f : EReal × BitVec 32 → EReal × BitVec 32 → EReal × BitVec 32)
    (hf : ∀ a b, (f a b = a ∧ Le b a) ∨ (f a b = b ∧ Le a b)) (l : List (EReal × BitVec 32)) (w : Fin n → EReal) (hw : ∀ q, ⊥ < w q)
    (hl : ∀ p, p ∈ l ↔ ∃ q, p = (w q, BitVec.ofNat 32 q.val)) (i : BitVec 32) (b : Fin n) (hb : First w b) :
    (l.foldl f (⊥, i)).2 = BitVec.ofNat 32 b.val := by
  obtain ⟨h1, -, h3⟩ := foldl_best f hf l (⊥, i)
  have h := h3 _ ((hl _).mpr ⟨b, rfl⟩)
  rcases h1 with e | hm
  · rw [e] at h
    rcases h with h | ⟨h, -⟩
    · exact absurd h (by simp)
    · exact absurd (hw b) (by have h : w b = ⊥ := h; rw [h]; exact lt_irrefl _)
  · obtain ⟨q, hq⟩ := (hl _).mp hm
    rw [hq] at h ⊢
    rcases h with h | ⟨h, hi⟩
    · exact absurd h (not_lt.mpr (hb q).1)
    · have h : w b = w q := h
      have hi : (BitVec.ofNat 32 q.val).toInt ≤ (BitVec.ofNat 32 b.val).toInt := hi
      rw [toInt_ofNat_small _ (by omega), toInt_ofNat_small _ (by omega)] at hi
      have hqb : q = b := by
        refine le_antisymm (by rw [Fin.le_def]; exact_mod_cast hi) ?_
        by_contra hlt
        exact absurd h (ne_of_gt ((hb q).2 (not_le.mp hlt)))
      rw [hqb]

/-! ## A tile -/

/-- A tile's maximum. -/
def tileMax {n : ℕ} (w : Fin n → EReal) : EReal := Finset.univ.fold max ⊥ w

theorem tileMax_eq {n : ℕ} (w : Fin n → EReal) (b : Fin n) (hb : First w b) : tileMax w = w b :=
  le_antisymm ((Finset.fold_max_le _).mpr ⟨bot_le, fun q _ => (hb q).1⟩) ((Finset.le_fold_max _).mpr (.inr ⟨b, Finset.mem_univ _, le_refl _⟩))

/-- The least index in the tile at which the maximum stands. -/
def tileFirst (w : Fin 1024 → EReal) : BitVec 32 :=
  Finset.univ.fold IntOp.minsi 2147483647#32 fun l : Fin 1024 => if w l = tileMax w then BitVec.ofNat 32 l.val else 1024#32

theorem tileFirst_eq (w : Fin 1024 → EReal) (b : Fin 1024) (hb : First w b) : tileFirst w = BitVec.ofNat 32 b.val := by
  apply BitVec.eq_of_toInt_eq
  unfold tileFirst
  rw [tileMax_eq w b hb, ← Finset.fold_hom (op := IntOp.minsi) (op' := (min : ℤ → ℤ → ℤ)) (m := fun x : BitVec 32 => x.toInt) (fun x y => SortNet.toInt_minsi x y)]
  rw [toInt_ofNat_small b.val (by omega)]
  refine le_antisymm ?_ ?_
  · refine (Finset.fold_min_le _).mpr (.inr ⟨b, Finset.mem_univ _, ?_⟩)
    rw [if_pos rfl, toInt_ofNat_small _ (by omega)]
  · have hbig : (2147483647#32 : BitVec 32).toInt = 2147483647 := by decide
    refine (Finset.le_fold_min _).mpr ⟨?_, fun l _ => ?_⟩
    · rw [hbig]; omega
    by_cases e : w l = w b
    · rw [if_pos e, toInt_ofNat_small l.val (by omega)]
      by_contra hlt
      have : l < b := by rw [Fin.lt_def]; omega
      exact absurd e (ne_of_lt ((hb l).2 this))
    · rw [if_neg e]
      have : (1024#32 : BitVec 32).toInt = 1024 := by decide
      rw [this]; omega

/-! ## Running over the tiles -/

theorem index_word (k l : ℕ) : IntOp.addi (Scalar.muli (BitVec.ofNat 32 k) 1024#32) (BitVec.ofNat 32 l) = BitVec.ofNat 32 (1024 * k + l) := by
  show BitVec.ofNat 32 k * BitVec.ofNat 32 1024 + BitVec.ofNat 32 l = _
  rw [← BitVec.ofNat_mul, ← BitVec.ofNat_add, Nat.mul_comm]

/-- A running maximum over eight tiles, whose index moves only to a tile that is strictly greater, ends at the first greatest entry. -/
theorem running_first (w : Fin 8192 → EReal) (hw : ∀ q, ⊥ < w q) (M : ℕ → EReal) (A : ℕ → BitVec 32) (h0 : M 0 = ⊥)
    (hM : ∀ k : Fin 8, M (k.val + 1) = max (M k.val) (tileMax fun l => w (col k l)))
    (hA : ∀ k : Fin 8, A (k.val + 1) = if M k.val < tileMax (fun l => w (col k l))
      then IntOp.addi (Scalar.muli (BitVec.ofNat 32 k.val) 1024#32) (tileFirst fun l => w (col k l)) else A k.val) :
    ∃ b, First w b ∧ A 8 = BitVec.ofNat 32 b.val := by
  have key : ∀ k : ℕ, k < 8 → ∃ b : Fin 8192, b.val < 1024 * (k + 1) ∧ M (k + 1) = w b ∧ A (k + 1) = BitVec.ofNat 32 b.val
      ∧ ∀ j : Fin 8192, j.val < 1024 * (k + 1) → w j ≤ w b ∧ (j < b → w j < w b) := by
    intro k
    induction k with
    | zero =>
      intro hk
      obtain ⟨b, hb⟩ := exists_first fun l => w (col (0 : Fin 8) l)
      have hm := tileMax_eq _ b hb
      have eM := hM 0
      have eA := hA 0
      rw [show ((0 : Fin 8) : ℕ) = 0 from rfl] at eM eA
      have hlt : M 0 < tileMax fun l => w (col (0 : Fin 8) l) := by rw [hm, h0]; exact hw _
      refine ⟨col 0 b, ?_, ?_, ?_, ?_⟩
      · show 1024 * 0 + b.val < _; omega
      · rw [eM, max_eq_right (le_of_lt hlt), hm]
      · rw [eA, if_pos hlt, tileFirst_eq _ b hb]; exact index_word _ _
      · intro j hj
        have hj' := hb ⟨j.val, by omega⟩
        have e : col 0 (⟨j.val, by omega⟩ : Fin 1024) = j := Fin.ext (by show 1024 * 0 + j.val = j.val; omega)
        simp only [e] at hj'
        refine ⟨hj'.1, fun h => hj'.2 ?_⟩
        rw [Fin.lt_def] at h ⊢
        have : (col 0 b).val = b.val := by show 1024 * 0 + b.val = b.val; omega
        show j.val < b.val; omega
    | succ k ih =>
      intro hk
      obtain ⟨a, ha, hMa, hAa, hmax⟩ := ih (by omega)
      obtain ⟨b, hb⟩ := exists_first fun l => w (col (⟨k + 1, hk⟩ : Fin 8) l)
      have hm := tileMax_eq _ b hb
      have eM := hM ⟨k + 1, hk⟩
      have eA := hA ⟨k + 1, hk⟩
      simp only at eM eA hm
      have hin : ∀ j : Fin 8192, 1024 * (k + 1) ≤ j.val → j.val < 1024 * (k + 1 + 1) →
          w j ≤ w (col ⟨k + 1, hk⟩ b) ∧ (j < col ⟨k + 1, hk⟩ b → w j < w (col ⟨k + 1, hk⟩ b)) := by
        intro j h1 h2
        have hj' := hb ⟨j.val - 1024 * (k + 1), by omega⟩
        have e : col ⟨k + 1, hk⟩ (⟨j.val - 1024 * (k + 1), by omega⟩ : Fin 1024) = j := Fin.ext (by show 1024 * (k + 1) + (j.val - 1024 * (k + 1)) = j.val; omega)
        simp only [e] at hj'
        refine ⟨hj'.1, fun h => hj'.2 ?_⟩
        rw [Fin.lt_def] at h ⊢
        have : (col ⟨k + 1, hk⟩ b).val = 1024 * (k + 1) + b.val := rfl
        show j.val - 1024 * (k + 1) < b.val; omega
      by_cases hlt : M (k + 1) < tileMax fun l => w (col (⟨k + 1, hk⟩ : Fin 8) l)
      · refine ⟨col ⟨k + 1, hk⟩ b, ?_, ?_, ?_, ?_⟩
        · show 1024 * (k + 1) + b.val < _; omega
        · rw [eM, max_eq_right (le_of_lt hlt), hm]
        · rw [eA, if_pos hlt, tileFirst_eq _ b hb]; exact index_word _ _
        · intro j hj
          rw [hm, hMa] at hlt
          by_cases h1 : 1024 * (k + 1) ≤ j.val
          · exact hin j h1 hj
          · have := lt_of_le_of_lt (hmax j (by omega)).1 hlt
            exact ⟨le_of_lt this, fun _ => this⟩
      · refine ⟨a, by omega, ?_, ?_, ?_⟩
        · rw [eM, max_eq_left (not_lt.mp hlt), hMa]
        · rw [eA, if_neg hlt, hAa]
        · intro j hj
          rw [hm, hMa] at hlt
          by_cases h1 : 1024 * (k + 1) ≤ j.val
          · refine ⟨(hin j h1 hj).1.trans (not_lt.mp hlt), fun h => ?_⟩
            rw [Fin.lt_def] at h; omega
          · exact hmax j (by omega)
  obtain ⟨b, -, -, hA8, hb⟩ := key 7 (by omega)
  exact ⟨b, fun j => hb j (by omega), hA8⟩

end Cert.Attend

end
-- ==== Proof.KernelIdealRows.lean ====
/- What the body's steps compute, element by element, on the extended reals. -/
module

public import proofs.«01_k».proof.Proof.KernelIdealValues
public import proofs.«01_k».proof.Proof.FirstMax
public import Idealize.ShloMosaic.Lib.Pointwise

@[expose] public section

set_option maxRecDepth 16384

noncomputable section

namespace Cert.KernelIdeal.Proof

open Cert.KernelIdeal.Gen Cert.Attend
open Idealize.ShloMosaic Idealize.ShloMosaic.TcCoe

/-! ## Scores and their exponentials -/

/-- A row of the embeddings, normalised. -/
theorem pay1_apply (x : Vec Ideal S1024x1024 .f32) (r l : Fin 1024) : k0_pay1 x (ix2 r l) = unit (fun k => x (ix2 r k)) l := by
  pointwise [k0_pay1]
  rfl

theorem pay6_apply (x y : Vec Ideal S1024x1024 .f32) (r l : Fin 1024) :
    k0_pay6 x y (ix2 r l) = ∑ k, y (ix2 r k) * unit (fun k => x (ix2 l k)) k := by
  pointwise [k0_pay6]
  rfl

theorem pay8_apply (x y : Vec Ideal S1024x1024 .f32) (r l : Fin 1024) : k0_pay8 x y (ix3 0 r l) = Ideal.exp (k0_pay6 x y (ix2 r l)) := by
  pointwise [k0_pay8, k0_pay7]

theorem pay9_apply (x y : Vec Ideal S1024x1024 .f32) (s : Vec Ideal S1024x1 .f32) (r : Fin 1024) :
    k0_pay9 x y s (ix2 r 0) = s (ix2 r 0) + ∑ l, Ideal.exp (k0_pay6 x y (ix2 r l)) := by
  pointwise [k0_pay9, k0_pay7]

theorem pay10_apply (x y : Vec Ideal S1024x1024 .f32) (s : Vec Ideal S1024x1 .f32) (r : Fin 1024) :
    k0_pay10 x y s (ix2 r 0) = s (ix2 r 0) + ∑ l, Ideal.exp (k0_pay6 x y (ix2 r l)) * k0_pay6 x y (ix2 r l) := by
  pointwise [k0_pay10, k0_pay7]

theorem pay2_apply (r : Fin 1024) : (k0_pay2 : FVec Ideal S1024x1 .f32) (ix2 r 0) = 0 := by pointwise [k0_pay2]
theorem pay3_apply (r : Fin 1024) : (k0_pay3 : FVec Ideal S1024x1 .f32) (ix2 r 0) = 0 := by pointwise [k0_pay3]
theorem pay4_apply (r : Fin 1024) : (k0_pay4 : FVec Ideal S1024x1 .f32) (ix2 r 0) = ⊥ := by
  pointwise [k0_pay4]
  exact ofBits_negInf

/-! ## Weights, actions, entropies -/

theorem pay16_apply (s : Vec Ideal S1024x1 .f32) (e : Vec Ideal S1x1024x1024 .f32) (r l : Fin 1024) :
    k0_pay16 s e (ix2 r l) = e (ix3 0 r l) * Ideal.div 1 (s (ix2 r 0)) := by
  pointwise [k0_pay16, k0_pay15]

theorem pay12_apply (w : Vec Ideal S1024x1024 .f32) (a : Vec Ideal S1024x128 .f32) (r : Fin 1024) (d : Fin 128) :
    k0_pay12 w a (ix2 r d) = ∑ l, w (ix2 r l) * a (ix2 l d) := by
  pointwise [k0_pay12, k0_pay11]

theorem pay13_apply (w : Vec Ideal S1024x1024 .f32) (a acc : Vec Ideal S1024x128 .f32) (r : Fin 1024) (d : Fin 128) :
    k0_pay13 w a acc (ix2 r d) = acc (ix2 r d) + ∑ l, w (ix2 r l) * a (ix2 l d) := by
  pointwise [k0_pay13, k0_pay11]

theorem pay14_apply (s dt : Vec Ideal S1024x1 .f32) (r : Fin 1024) :
    k0_pay14 (k0_pay15 s) s dt (ix2 r 0) = Ideal.log (s (ix2 r 0)) - dt (ix2 r 0) * Ideal.div 1 (s (ix2 r 0)) := by
  pointwise [k0_pay14, k0_pay15]

/-! ## The running maximum and its index -/

theorem pay17_apply (s : Vec Ideal S1024x1 .f32) (e : Vec Ideal S1x1024x1024 .f32) (r : Fin 1024) :
    k0_pay17 s e (ix2 r 0) = tileMax fun l => k0_pay16 s e (ix2 r l) := by
  pointwise [k0_pay17]
  rw [ofBits_negInf]
  rfl

theorem pay19_apply (s mx : Vec Ideal S1024x1 .f32) (e : Vec Ideal S1x1024x1024 .f32) (r : Fin 1024) :
    k0_pay19 s e mx (ix2 r 0) = max (mx (ix2 r 0)) (tileMax fun l => k0_pay16 s e (ix2 r l)) := by
  rw [← pay17_apply]
  pointwise [k0_pay19]

theorem reduces_tile : S1024x1024.Reduces [1] S1024 := reduces_S1024x1024_S1024

theorem lift_tile (r l : Fin 1024) : reduces_tile.lift (ix1 r) l = ix2 r l := by
  funext a
  match a with
  | ⟨0, _⟩ => rfl
  | ⟨1, _⟩ => rfl

/-- The tile's candidate indices: a column's index where its weight is the row's greatest, else the tile's width. -/
def candidates (s : Vec Ideal S1024x1 .f32) (e : Vec Ideal S1x1024x1024 .f32) : IVec S1024x1024 32 :=
  select (cmpf .oeq (k0_pay16 s e) (broadcastTo S1024x1024 (k0_pay17 s e) broadcasts_S1024x1_S1024x1024)) (iota .tc S1024x1024 32 [1] iota_S1024x1024_d1_w32) (broadcast S1024x1024 1024#32)

theorem candidates_apply (s : Vec Ideal S1024x1 .f32) (e : Vec Ideal S1x1024x1024 .f32) (r l : Fin 1024) :
    candidates s e (ix2 r l) = if k0_pay16 s e (ix2 r l) = (tileMax fun l => k0_pay16 s e (ix2 r l)) then BitVec.ofNat 32 l.val else 1024#32 := by
  rw [← pay17_apply]
  pointwise [candidates]

/-- The least candidate of each row. -/
def least (s : Vec Ideal S1024x1 .f32) (e : Vec Ideal S1x1024x1024 .f32) : IVec S1024 32 :=
  multiReductionI .minsi [1] S1024 (candidates s e) 2147483647#32 reduces_S1024x1024_S1024 rfl

theorem least_apply (s : Vec Ideal S1024x1 .f32) (e : Vec Ideal S1x1024x1024 .f32) (r : Fin 1024) :
    least s e (ix1 r) = tileFirst fun l => k0_pay16 s e (ix2 r l) := by
  refine (multiReductionI_eq_fold .minsi (candidates s e) 2147483647#32 reduces_S1024x1024_S1024 rfl (ix1 r)).trans ?_
  refine (reduces_tile.fold_filter_drop_single IntOp.minsi 2147483647#32 (candidates s e) (ix1 r)).trans ?_
  refine Finset.fold_congr fun l _ => ?_
  exact (congrArg (candidates s e) (lift_tile r l)).trans (candidates_apply s e r l)

theorem pay18_apply (k : BitVec 32) (s mx : Vec Ideal S1024x1 .f32) (e : Vec Ideal S1x1024x1024 .f32) (am : Vec Ideal S1024x1 .i32) (r : Fin 1024) :
    k0_pay18 k s e mx am (ix2 r 0) = if mx (ix2 r 0) < (tileMax fun l => k0_pay16 s e (ix2 r l))
      then IntOp.addi (Scalar.muli k 1024#32) (tileFirst fun l => k0_pay16 s e (ix2 r l)) else am (ix2 r 0) := by
  rw [← pay17_apply, ← least_apply]
  have h : k0_pay18 (F := Ideal) k s e mx am = shapeCast S1024x1 (select (cmpf .ogt (k0_pay17 s e) mx) (addi (broadcast S1024x1 (Scalar.muli k 1024#32))
      (shapeCast S1024x1 (least s e) shapeCasts_S1024_S1024x1)) am) shapeCasts_S1024x1_S1024x1 := rfl
  rw [h]
  generalize least s e = R
  pointwise []

end Cert.KernelIdeal.Proof

end
-- ==== Proof.Scores.lean ====
/- The scores of two arrays of rows, as real numbers, and the results that both programs are shown to have, stated over them. -/
module

public import proofs.«01_k».proof.Proof.FirstMax
public import Idealize.ShloMosaic.Lib.Pointwise.Index

@[expose] public section

noncomputable section

namespace Cert.Attend

open Idealize.ShloMosaic

/-- Arrays of extended reals over a rank-2 shape. -/
abbrev Arr (a b : ℕ) : Type := (⟨2, ![a, b]⟩ : Shape).Idx → EReal

/-- A row of an array. -/
def rowOf {a b : ℕ} (x : Arr a b) (r : Fin a) (k : Fin b) : EReal := x (ix2 r k)

/-- The score of row `r` of the embeddings against row `q` of the prototypes. -/
def z (h : Arr 4096 1024) (p : Arr 8192 1024) (r : Fin 4096) (q : Fin 8192) : ℝ := (score (rowOf h r) (rowOf p q)).toReal

/-- A score is that real number, whatever the arrays hold. -/
theorem score_eq (h : Arr 4096 1024) (p : Arr 8192 1024) (r : Fin 4096) (q : Fin 8192) :
    score (rowOf h r) (rowOf p q) = ((z h p r q : ℝ) : EReal) := by
  obtain ⟨v, hv⟩ := score_real (rowOf h r) (rowOf p q)
  unfold z
  rw [hv, EReal.toReal_coe]

/-- The weights. -/
def weights (h : Arr 4096 1024) (p : Arr 8192 1024) (r : Fin 4096) (q : Fin 8192) : EReal := ((weight (z h p r) q : ℝ) : EReal)

/-- The actions: each row's weighted sum of the prototypes' actions. -/
def action (h : Arr 4096 1024) (p : Arr 8192 1024) (a : Arr 8192 128) (r : Fin 4096) (d : Fin 128) : EReal :=
  ∑ q, weights h p r q * a (ix2 q d)

/-- The mean entropy of the rows. -/
def meanEntropy (h : Arr 4096 1024) (p : Arr 8192 1024) : ℝ := (∑ r, entropy (z h p r)) / 4096

/-- The first place of a row's greatest weight. -/
def best (h : Arr 4096 1024) (p : Arr 8192 1024) (r : Fin 4096) : Fin 8192 := (exists_first (weights h p r)).choose

theorem best_first (h : Arr 4096 1024) (p : Arr 8192 1024) (r : Fin 4096) : First (weights h p r) (best h p r) := (exists_first (weights h p r)).choose_spec

theorem First.unique {n : ℕ} {w : Fin n → EReal} {b b' : Fin n} (h : First w b) (h' : First w b') : b = b' := by
  rcases lt_trichotomy b b' with e | e | e
  · exact absurd (h b').1 (not_le.mpr ((h' b).2 e))
  · exact e
  · exact absurd (h' b).1 (not_le.mpr ((h b').2 e))

theorem weights_bot (h : Arr 4096 1024) (p : Arr 8192 1024) (r : Fin 4096) (q : Fin 8192) : ⊥ < weights h p r q := EReal.bot_lt_coe _

/-! ## Arithmetic of real numbers among the extended ones -/

theorem div_real (x y : ℝ) (hy : y ≠ 0) : Ideal.div (x : EReal) (y : EReal) = ((x / y : ℝ) : EReal) := by
  rw [Ideal.div_coe hy, ← EReal.coe_mul, mul_one_div]

theorem log_real (x : ℝ) (hx : 0 < x) : Ideal.log (x : EReal) = ((Real.log x : ℝ) : EReal) := by
  rw [Ideal.log_coe, if_neg (not_le.mpr hx)]

end Cert.Attend

end
-- ==== Proof.KernelIdealResult.lean ====
/- The kernel's closed forms are the weights, actions, entropies and first greatest weights of the scores. -/
module

public import proofs.«01_k».proof.Proof.KernelIdealArrays
public import proofs.«01_k».proof.Proof.KernelIdealRows
public import proofs.«01_k».proof.Proof.Scores

@[expose] public section

set_option maxRecDepth 16384

noncomputable section

namespace Cert.KernelIdeal.Proof

open Cert.KernelIdeal.Gen Cert.Attend
open Idealize.ShloMosaic Idealize.ShloMosaic.TcCoe

variable (m : (ℓ : Loc nD τ sig) → Buf (Elt Ideal) ℓ) (c : Dev nD)

/-- The launched arrays. -/
def argH : Arr 4096 1024 := m ((c.tc : Thread nD τ).loc main_arg0)
def argP : Arr 8192 1024 := m ((c.tc : Thread nD τ).loc main_arg1)
def argA : Arr 8192 128 := m ((c.tc : Thread nD τ).loc main_arg2)

/-- The scores of a row of a row block. -/
abbrev zr (i : Fin 4) (r : Fin 1024) : Fin 8192 → ℝ := z (argH m c) (argP m c) (row i r)

/-! ## The first sweep -/

/-- A tile's score. -/
theorem score_tile (i : Fin 4) (k : Fin 8) (r l : Fin 1024) :
    k0_pay6 (pB m c i.val k.val) (hnV m c i.val) (ix2 r l) = ((zr m c i r (col k l) : ℝ) : EReal) := by
  rw [pay6_apply, ← score_eq]
  unfold score
  refine Finset.sum_congr rfl fun j _ => ?_
  have e1 : hnV m c i.val (ix2 r j) = unit (rowOf (argH m c) (row i r)) j := by
    unfold hnV
    rw [pay1_apply]
    congr 1
    funext k'
    exact hB_apply m c i r k'
  have e2 : (fun k' => pB m c i.val k.val (ix2 l k')) = rowOf (argP m c) (col k l) := by
    funext k'
    exact pB_apply m c i k l k'
  rw [e1, e2]

theorem exp_tile (i : Fin 4) (k : Fin 8) (r l : Fin 1024) :
    Ideal.exp (k0_pay6 (pB m c i.val k.val) (hnV m c i.val) (ix2 r l)) = ((Real.exp (zr m c i r (col k l)) : ℝ) : EReal) := by
  rw [score_tile, Ideal.exp_coe]

/-- The sum of the exponentials after the first sweep. -/
theorem sV_total (i : Fin 4) (r : Fin 1024) : sV m c i.val 8 (ix2 r 0) = ((total (zr m c i r) : ℝ) : EReal) := by
  rw [run_sum (fun k => sV m c i.val k (ix2 r 0)) (fun k => ∑ l, Ideal.exp (k0_pay6 (pB m c i.val k) (hnV m c i.val) (ix2 r l)))
    (pay2_apply r) (fun k => pay9_apply _ _ _ r) 8]
  unfold total
  rw [← sum_coe, sum_tiles]
  exact Finset.sum_congr rfl fun k _ => Finset.sum_congr rfl fun l _ => exp_tile m c i k r l

/-- The sum of the exponentials, each times its score, after the first sweep. -/
theorem dotV_dotted (i : Fin 4) (r : Fin 1024) : dotV m c i.val 8 (ix2 r 0) = ((dotted (zr m c i r) : ℝ) : EReal) := by
  rw [run_sum (fun k => dotV m c i.val k (ix2 r 0))
    (fun k => ∑ l, Ideal.exp (k0_pay6 (pB m c i.val k) (hnV m c i.val) (ix2 r l)) * k0_pay6 (pB m c i.val k) (hnV m c i.val) (ix2 r l))
    (pay3_apply r) (fun k => pay10_apply _ _ _ r) 8]
  unfold dotted
  rw [← sum_coe, sum_tiles]
  refine Finset.sum_congr rfl fun k _ => Finset.sum_congr rfl fun l _ => ?_
  rw [exp_tile, score_tile, EReal.coe_mul]

/-! ## The second sweep -/

theorem inv_total (i : Fin 4) (r : Fin 1024) : Ideal.div 1 (sV m c i.val 8 (ix2 r 0)) = ((1 / total (zr m c i r) : ℝ) : EReal) := by
  rw [sV_total, ← EReal.coe_one, div_real _ _ (ne_of_gt (total_pos _))]

/-- The kernel's weights. -/
theorem wV_weights (i : Fin 4) (k : Fin 8) (r l : Fin 1024) : wV m c i.val k.val (ix2 r l) = weights (argH m c) (argP m c) (row i r) (col k l) := by
  unfold wV
  rw [pay16_apply, inv_total]
  unfold eV
  rw [pay8_apply, exp_tile, ← EReal.coe_mul]
  unfold weights weight
  rw [mul_one_div]

/-- The kernel's actions. -/
theorem actV_action (i : Fin 4) (r : Fin 1024) (d : Fin 128) : actV m c i.val 7 (ix2 r d) = action (argH m c) (argP m c) (argA m c) (row i r) d := by
  have h := run_sum (fun k => match k with | 0 => 0 | k + 1 => actV m c i.val k (ix2 r d)) (fun k => ∑ l, wV m c i.val k (ix2 r l) * aB m c i.val k (ix2 l d)) rfl
    (fun k => by
      cases k with
      | zero => exact (pay12_apply _ _ r d).trans (zero_add _).symm
      | succ k => exact pay13_apply _ _ _ r d) 8
  refine h.trans ?_
  unfold action
  rw [sum_tiles]
  refine Finset.sum_congr rfl fun k _ => Finset.sum_congr rfl fun l _ => ?_
  rw [wV_weights, aB_apply]
  rfl

/-- The kernel's entropy of a row. -/
theorem entV_entropy (i : Fin 4) (r : Fin 1024) : entV m c i.val (ix2 r 0) = ((entropy (zr m c i r) : ℝ) : EReal) := by
  unfold entV
  rw [pay14_apply, inv_total, sV_total, dotV_dotted, log_real _ (total_pos _), ← EReal.coe_mul, ← EReal.coe_sub]
  rfl

/-- The kernel's index of a row. -/
theorem amV_best (i : Fin 4) (r : Fin 1024) : amV m c i.val 8 (ix2 r 0) = BitVec.ofNat 32 (best (argH m c) (argP m c) (row i r)).val := by
  have hw : ∀ k : Fin 8, (fun l => k0_pay16 (sV m c i.val 8) (eV m c i.val k.val) (ix2 r l)) = fun l => weights (argH m c) (argP m c) (row i r) (col k l) :=
    fun k => funext fun l => wV_weights m c i k r l
  obtain ⟨b, hb, e⟩ := running_first (weights (argH m c) (argP m c) (row i r)) (weights_bot _ _ _) (fun k => mV m c i.val k (ix2 r 0)) (fun k => amV m c i.val k (ix2 r 0))
    (pay4_apply r)
    (fun k => by rw [← hw]; exact pay19_apply _ _ _ r)
    (fun k => by rw [← hw]; exact pay18_apply _ _ _ _ _ r)
  exact e.trans (by rw [hb.unique (best_first _ _ _)])

end Cert.KernelIdeal.Proof

end
-- ==== Proof.KernelIdealFinal.lean ====
/- What the kernel's four results hold at the end of a run, as arrays. -/
module

public import proofs.«01_k».proof.Proof.KernelIdealResult

@[expose] public section

set_option maxRecDepth 16384

noncomputable section

namespace Cert.KernelIdeal.Proof

open Cert.KernelIdeal.Gen Cert.Attend
open Idealize.ShloMosaic Idealize.ShloMosaic.TcCoe

variable (m : (ℓ : Loc nD τ sig) → Buf (Elt Ideal) ℓ) (ρ : Dev nD → PrngReg) (c : Dev nD)

/-- The row block of a row, and the tile of a prototype. -/
def blockOf (r : Fin 4096) : Fin 4 := ⟨r.val / 1024, by omega⟩
def tileOf (q : Fin 8192) : Fin 8 := ⟨q.val / 1024, by omega⟩

theorem row_lo (r : Fin 4096) : row (blockOf r) (lo r) = r := Fin.ext (by
  show 1024 * (r.val / 1024) + r.val % 1024 = r.val
  omega)

theorem col_lo (q : Fin 8192) : col (tileOf q) (lo q) = q := Fin.ext (by
  show 1024 * (q.val / 1024) + q.val % 1024 = q.val
  omega)

theorem actions_eq : (fun x : S4096x128.Idx => actV m c ((x 0).val / 1024) 7 (ix2 (lo (x 0)) (x 1)))
    = fun x : S4096x128.Idx => action (argH m c) (argP m c) (argA m c) (x 0) (x 1) := funext fun x =>
  (actV_action m c (blockOf (x 0)) (lo (x 0)) (x 1)).trans (congrArg (fun r => action (argH m c) (argP m c) (argA m c) r (x 1)) (row_lo (x 0)))

theorem weights_eq : (fun x : S4096x8192.Idx => wV m c ((x 0).val / 1024) ((x 1).val / 1024) (ix2 (lo (x 0)) (lo (x 1))))
    = fun x : S4096x8192.Idx => weights (argH m c) (argP m c) (x 0) (x 1) := funext fun x =>
  (wV_weights m c (blockOf (x 0)) (tileOf (x 1)) (lo (x 0)) (lo (x 1))).trans
    (congrArg₂ (fun r q => weights (argH m c) (argP m c) r q) (row_lo (x 0)) (col_lo (x 1)))

/-- The column of the rows' entropies. -/
theorem entropies_eq : (fun x : S4096x1.Idx => entV m c ((x 0).val / 1024) (ix2 (lo (x 0)) 0))
    = fun x : S4096x1.Idx => ((entropy (z (argH m c) (argP m c) (x 0)) : ℝ) : EReal) := funext fun x =>
  (entV_entropy m c (blockOf (x 0)) (lo (x 0))).trans (congrArg (fun r => ((entropy (z (argH m c) (argP m c) r) : ℝ) : EReal)) (row_lo (x 0)))

/-- The column of the rows' indices. -/
theorem indices_eq : (fun x : S4096x1.Idx => amV m c ((x 0).val / 1024) 8 (ix2 (lo (x 0)) 0))
    = fun x : S4096x1.Idx => BitVec.ofNat 32 (best (argH m c) (argP m c) (x 0)).val := funext fun x =>
  (amV_best m c (blockOf (x 0)) (lo (x 0))).trans (congrArg (fun r => BitVec.ofNat 32 (best (argH m c) (argP m c) r).val) (row_lo (x 0)))

/-- The host's mean of a column, at its one index. -/
theorem mean_apply (e : FVec Ideal S4096x1 .f32) :
    Host.divf (Host.reduceAdd e (constant S_ .f32 0x00000000#32) reducesTo_S4096x1_S_d0_1 h_S_) (constant S_ .f32 0x45800000#32) ix0
      = Ideal.div (∑ r, e (ix2 r 0)) (Ideal.ofBits .f32 (1166016512#32 : BitVec 32)) := by
  pointwise []
  exact congrArg (fun s => Ideal.div s _) (Finset.sum_congr rfl fun r _ => Fin.sum_univ_one _)

theorem mean_eq : Host.divf (Host.reduceAdd (fun x : S4096x1.Idx => ((entropy (z (argH m c) (argP m c) (x 0)) : ℝ) : EReal)) (constant (F := Ideal) S_ .f32 0x00000000#32) reducesTo_S4096x1_S_d0_1 h_S_)
      (constant S_ .f32 0x45800000#32)
    = fun _ => ((meanEntropy (argH m c) (argP m c) : ℝ) : EReal) := by
  funext x
  rw [show x = ix0 from funext fun a => a.elim0]
  refine (mean_apply _).trans ?_
  show Ideal.div (∑ r, ((entropy (z (argH m c) (argP m c) r) : ℝ) : EReal)) _ = _
  rw [sum_coe, ofBits_rows, div_real _ _ (by norm_num)]
  rfl

theorem reshape_apply (v : S4096x1.Idx → BitVec 32) (r : Fin 4096) : shapeCast S4096 v shapeCasts_S4096x1_S4096 (ix1 r) = v (ix2 r 0) := by
  pointwise []

/-- The results of every run. -/
theorem results : θ_run defs (onTc (τ := τ) (main (F := Ideal))) ⟨m, fun _ => 0, ρ⟩ fun r => ∀ c : Dev nD,
    r.2.mem ((c.tc : Thread nD τ).loc main_v0_1) = (fun x : S4096x128.Idx => action (argH m c) (argP m c) (argA m c) (x 0) (x 1))
    ∧ r.2.mem ((c.tc : Thread nD τ).loc main_v0_0) = (fun x : S4096x8192.Idx => weights (argH m c) (argP m c) (x 0) (x 1))
    ∧ r.2.mem ((c.tc : Thread nD τ).loc main_v2) = (fun _ : S_.Idx => ((meanEntropy (argH m c) (argP m c) : ℝ) : EReal))
    ∧ r.2.mem ((c.tc : Thread nD τ).loc main_v3) = (fun x : S4096.Idx => BitVec.ofNat 32 (best (argH m c) (argP m c) (x 0)).val)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c =>
    ⟨(h c).1.trans (actions_eq m c), (h c).2.1.trans (weights_eq m c),
      (h c).2.2.1.trans ((congrArg (fun e => Host.divf (Host.reduceAdd (F := Ideal) (φ := .f32) e (constant S_ .f32 0x00000000#32) reducesTo_S4096x1_S_d0_1 h_S_) (constant S_ .f32 0x45800000#32)) (entropies_eq m c)).trans (mean_eq m c)),
      (h c).2.2.2.1.trans ((congrArg (fun v => shapeCast S4096 v shapeCasts_S4096x1_S4096) (indices_eq m c)).trans (funext fun x => by
        rw [show x = ix1 (x 0) from funext fun a => by fin_cases a; rfl]
        exact reshape_apply _ (x 0))),
      (h c).2.2.2.2⟩) (run m ρ)

end Cert.KernelIdeal.Proof

end
-- ==== Proof.ReferenceIdealRun.lean ====
/- The reference program's run: every weakly fair execution of it ends with each result at the plain term of the arguments
   below, the arguments unchanged and every semaphore at zero. -/
module

public import proofs.«01_k».proof.Proof.Gen.ReferenceIdeal
public import Idealize.ShloMosaic.Lib.StableHlo.Run
public import Idealize.ShloMosaic.Lib.Quiescent

@[expose] public section

noncomputable section

namespace Cert.ReferenceIdeal.Proof

open Cert.ReferenceIdeal Cert.ReferenceIdeal.Gen Idealize.ShloMosaic Idealize.ShloMosaic.TcCoe Idealize.SL.Sem Idealize.ShloMosaic.StableHlo

variable {F : FTy → Type} [FloatOps F]

/-- The reference's host operations, in order. -/
abbrev ops : List (HloOp τ sig (Elt F)) :=
  [ TRef.binary (TRef.of (T := ⟨S4096x1024, .f32⟩) main_arg0) (TRef.of (T := ⟨S4096x1024, .f32⟩) main_arg0) (TRef.of (T := ⟨S4096x1024, .f32⟩) main_call0_v0) mulf,
    TRef.nullary (TRef.of (T := ⟨S_, .f32⟩) main_call0_cst) (constant S_ .f32 0x00000000#32),
    TRef.binary (TRef.of (T := ⟨S4096x1024, .f32⟩) main_call0_v0) (TRef.of (T := ⟨S_, .f32⟩) main_call0_cst) (TRef.of (T := ⟨S4096, .f32⟩) main_call0_v1) (fun x v => Host.reduceAdd x v reducesTo_S4096x1024_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    nullary main_cst (constant S_ .f32 0x2B8CBCCC#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S4096x1, .f32⟩) main_call1_v1) (broadcastInDim S4096x1 ![] bcast_S_S4096x1),
    TRef.binary (TRef.of (T := ⟨S4096x1, .f32⟩) main_call1_v1) (TRef.of (T := ⟨S4096x1, .f32⟩) main_v0) (TRef.of (T := ⟨S4096x1, .f32⟩) main_v1) maximumf,
    unary main_v1 main_v2 (broadcastInDim S4096x1024 ![0, 1] bcast_S4096x1_S4096x1024_0_1 : (⟨S4096x1, .f32⟩ : BufTy).Contents (Elt F) → (⟨S4096x1024, .f32⟩ : BufTy).Contents (Elt F)),
    binary main_arg0 main_v2 main_v3 (Host.divf : (⟨S4096x1024, .f32⟩ : BufTy).Contents (Elt F) → (⟨S4096x1024, .f32⟩ : BufTy).Contents (Elt F) → (⟨S4096x1024, .f32⟩ : BufTy).Contents (Elt F)),
    TRef.binary (TRef.of (T := ⟨S8192x1024, .f32⟩) main_arg1) (TRef.of (T := ⟨S8192x1024, .f32⟩) main_arg1) (TRef.of (T := ⟨S8192x1024, .f32⟩) main_call2_v0) mulf,
    TRef.nullary (TRef.of (T := ⟨S_, .f32⟩) main_call2_cst) (constant S_ .f32 0x00000000#32),
    TRef.binary (TRef.of (T := ⟨S8192x1024, .f32⟩) main_call2_v0) (TRef.of (T := ⟨S_, .f32⟩) main_call2_cst) (TRef.of (T := ⟨S8192, .f32⟩) main_call2_v1) (fun x v => Host.reduceAdd x v reducesTo_S8192x1024_S8192_d1 h_S_),
    TRef.unary (TRef.of (T := ⟨S8192, .f32⟩) main_call2_v1) (TRef.of (T := ⟨S8192x1, .f32⟩) main_call2_v2) (broadcastInDim S8192x1 ![0] bcast_S8192_S8192x1_0),
    TRef.unary (TRef.of (T := ⟨S8192x1, .f32⟩) main_call2_v2) (TRef.of (T := ⟨S8192x1, .f32⟩) main_v4) Host.sqrt,
    nullary main_cst_0 (constant S_ .f32 0x2B8CBCCC#32),
    TRef.unary (TRef.of (T := ⟨S_, .f32⟩) main_cst_0) (TRef.of (T := ⟨S_, .f32⟩) main_call3_v0) id,
    TRef.unary (TRef.of (T := ⟨S_, .f32⟩) main_call3_v0) (TRef.of (T := ⟨S8192x1, .f32⟩) main_call3_v1) (broadcastInDim S8192x1 ![] bcast_S_S8192x1),
    TRef.binary (TRef.of (T := ⟨S8192x1, .f32⟩) main_call3_v1) (TRef.of (T := ⟨S8192x1, .f32⟩) main_v4) (TRef.of (T := ⟨S8192x1, .f32⟩) main_v5) maximumf,
    unary main_v5 main_v6 (broadcastInDim S8192x1024 ![0, 1] bcast_S8192x1_S8192x1024_0_1 : (⟨S8192x1, .f32⟩ : BufTy).Contents (Elt F) → (⟨S8192x1024, .f32⟩ : BufTy).Contents (Elt F)),
    binary main_arg1 main_v6 main_v7 (Host.divf : (⟨S8192x1024, .f32⟩ : BufTy).Contents (Elt F) → (⟨S8192x1024, .f32⟩ : BufTy).Contents (Elt F) → (⟨S8192x1024, .f32⟩ : BufTy).Contents (Elt F)),
    unary main_v7 main_v8 ((transpose S1024x8192 [1, 0] · transposes_S8192x1024_S1024x8192_1_0) : (⟨S8192x1024, .f32⟩ : BufTy).Contents (Elt F) → (⟨S1024x8192, .f32⟩ : BufTy).Contents (Elt F)),
    binary main_v3 main_v8 main_v9 ((fun l r => Host.dotGeneral dot_S4096x1024_S1024x8192_S4096x8192_1_0_0_1_n_n none l r) : (⟨S4096x1024, .f32⟩ : BufTy).Contents (Elt F) → (⟨S1024x8192, .f32⟩ : BufTy).Contents (Elt F) → (⟨S4096x8192, .f32⟩ : BufTy).Contents (Elt F)),
    nullary main_cst_1 (constant S_ .f32 0xFF800000#32),
    binary main_v9 main_cst_1 main_v10 ((fun x v => Host.reduce FloatOps.maximumf x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_2 (constant S_ .f32 0xFF800000#32),
    unary main_cst_2 main_v11 (broadcastInDim S4096 ![] bcast_S_S4096 : (⟨S_, .f32⟩ : BufTy).Contents (Elt F) → (⟨S4096, .f32⟩ : BufTy).Contents (Elt F)),
    binary main_v11 main_v10 main_v12 (maximumf : (⟨S4096, .f32⟩ : BufTy).Contents (Elt F) → (⟨S4096, .f32⟩ : BufTy).Contents (Elt F) → (⟨S4096, .f32⟩ : BufTy).Contents (Elt F)),
    unary main_v12 main_v13 (broadcastInDim S4096x1 ![0] bcast_S4096_S4096x1_0 : (⟨S4096, .f32⟩ : BufTy).Contents (Elt F) → (⟨S4096x1, .f32⟩ : BufTy).Contents (Elt F)),
    unary main_v13 main_v14 (broadcastInDim S4096x8192 ![0, 1] bcast_S4096x1_S4096x8192_0_1 : (⟨S4096x1, .f32⟩ : BufTy).Contents (Elt F) → (⟨S4096x8192, .f32⟩ : BufTy).Contents (Elt F)),
    binary main_v9 main_v14 main_v15 (subf : (⟨S4096x8192, .f32⟩ : BufTy).Contents (Elt F) → (⟨S4096x8192, .f32⟩ : BufTy).Contents (Elt F) → (⟨S4096x8192, .f32⟩ : BufTy).Contents (Elt F)),
    unary main_v15 main_v16 (Host.exp : (⟨S4096x8192, .f32⟩ : BufTy).Contents (Elt F) → (⟨S4096x8192, .f32⟩ : BufTy).Contents (Elt F)),
    nullary main_cst_3 (constant S_ .f32 0x00000000#32),
    binary main_v16 main_cst_3 main_v17 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v17 main_v18 (broadcastInDim S4096x1 ![0] bcast_S4096_S4096x1_0 : (⟨S4096, .f32⟩ : BufTy).Contents (Elt F) → (⟨S4096x1, .f32⟩ : BufTy).Contents (Elt F)),
    unary main_v18 main_v19 (broadcastInDim S4096x8192 ![0, 1] bcast_S4096x1_S4096x8192_0_1 : (⟨S4096x1, .f32⟩ : BufTy).Contents (Elt F) → (⟨S4096x8192, .f32⟩ : BufTy).Contents (Elt F)),
    binary main_v16 main_v19 main_v20 (Host.divf : (⟨S4096x8192, .f32⟩ : BufTy).Contents (Elt F) → (⟨S4096x8192, .f32⟩ : BufTy).Contents (Elt F) → (⟨S4096x8192, .f32⟩ : BufTy).Contents (Elt F)),
    TRef.nullary (TRef.of (T := ⟨S4096x8192, .i32⟩) main_call4_v0) (iotaInDim S4096x8192 32 1),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S4096x8192, .f32⟩) main_v20) (TRef.of (T := ⟨S4096x8192, .i32⟩) main_call4_v0) (TRef.of (T := ⟨S_, .f32⟩) main_call4_cst) (TRef.of (T := ⟨S_, .i32⟩) main_call4_c) (TRef.of (T := ⟨S4096, .f32⟩) main_call4_v1_0) (fun x y u v j => (Host.argReduce reducer_argmax_f32_i32 x y u v reducesTo_S4096x8192_S4096_d1 h_S_ j).1),
    TRef.quaternary (TRef.of (T := ⟨S4096x8192, .f32⟩) main_v20) (TRef.of (T := ⟨S4096x8192, .i32⟩) main_call4_v0) (TRef.of (T := ⟨S_, .f32⟩) main_call4_cst) (TRef.of (T := ⟨S_, .i32⟩) main_call4_c) (TRef.of (T := ⟨S4096, .i32⟩) main_v21) (fun x y u v j => (Host.argReduce reducer_argmax_f32_i32 x y u v reducesTo_S4096x8192_S4096_d1 h_S_ j).2),
    binary main_v20 main_arg2 main_v22 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    unary main_v20 main_v23 (Host.log : (⟨S4096x8192, .f32⟩ : BufTy).Contents (Elt F) → (⟨S4096x8192, .f32⟩ : BufTy).Contents (Elt F)),
    binary main_v20 main_v23 main_v24 (mulf : (⟨S4096x8192, .f32⟩ : BufTy).Contents (Elt F) → (⟨S4096x8192, .f32⟩ : BufTy).Contents (Elt F) → (⟨S4096x8192, .f32⟩ : BufTy).Contents (Elt F)),
    nullary main_cst_4 (constant S_ .f32 0x00000000#32),
    binary main_v24 main_cst_4 main_v25 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_5 (constant S_ .f32 0x00000000#32),
    binary main_v25 main_cst_5 main_v26 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_6 (constant S_ .f32 0x45800000#32),
    binary main_v26 main_cst_6 main_v27 (Host.divf : (⟨S_, .f32⟩ : BufTy).Contents (Elt F) → (⟨S_, .f32⟩ : BufTy).Contents (Elt F) → (⟨S_, .f32⟩ : BufTy).Contents (Elt F)),
    unary main_v27 main_v28 (Host.negf : (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., binary_bufs_sub .., unary_bufs_sub .., binary_bufs_sub .., nullary_bufs_sub .., binary_bufs_sub .., nullary_bufs_sub .., binary_bufs_sub .., nullary_bufs_sub .., binary_bufs_sub .., unary_bufs_sub ..⟩

/-- The embeddings' rows, and the prototypes', divided by their clipped norms. -/
def hN (x : FVec F S4096x1024 .f32) : FVec F S4096x1024 .f32 :=
  Host.divf x (broadcastInDim S4096x1024 ![0, 1] bcast_S4096x1_S4096x1024_0_1 (maximumf (broadcastInDim S4096x1 ![] bcast_S_S4096x1 (id (constant S_ .f32 0x2B8CBCCC#32)))
    (Host.sqrt (broadcastInDim S4096x1 ![0] bcast_S4096_S4096x1_0 (Host.reduceAdd (mulf x x) (constant S_ .f32 0x00000000#32) reducesTo_S4096x1024_S4096_d1 h_S_)))))
def pN (x : FVec F S8192x1024 .f32) : FVec F S8192x1024 .f32 :=
  Host.divf x (broadcastInDim S8192x1024 ![0, 1] bcast_S8192x1_S8192x1024_0_1 (maximumf (broadcastInDim S8192x1 ![] bcast_S_S8192x1 (id (constant S_ .f32 0x2B8CBCCC#32)))
    (Host.sqrt (broadcastInDim S8192x1 ![0] bcast_S8192_S8192x1_0 (Host.reduceAdd (mulf x x) (constant S_ .f32 0x00000000#32) reducesTo_S8192x1024_S8192_d1 h_S_)))))
/-- The similarities. -/
def sim (h : FVec F S4096x1024 .f32) (p : FVec F S8192x1024 .f32) : FVec F S4096x8192 .f32 :=
  Host.dotGeneral dot_S4096x1024_S1024x8192_S4096x8192_1_0_0_1_n_n none (hN h) (transpose S1024x8192 [1, 0] (pN p) transposes_S8192x1024_S1024x8192_1_0)
/-- The exponentials of the similarities less their row's maximum. -/
def expd (z : FVec F S4096x8192 .f32) : FVec F S4096x8192 .f32 :=
  Host.exp (subf z (broadcastInDim S4096x8192 ![0, 1] bcast_S4096x1_S4096x8192_0_1 (broadcastInDim S4096x1 ![0] bcast_S4096_S4096x1_0
    (maximumf (broadcastInDim S4096 ![] bcast_S_S4096 (constant S_ .f32 0xFF800000#32)) (Host.reduce FloatOps.maximumf z (constant S_ .f32 0xFF800000#32) reducesTo_S4096x8192_S4096_d1 h_S_)))))
/-- The weights of similarities `z`. -/
def wts (z : FVec F S4096x8192 .f32) : FVec F S4096x8192 .f32 :=
  Host.divf (expd z) (broadcastInDim S4096x8192 ![0, 1] bcast_S4096x1_S4096x8192_0_1 (broadcastInDim S4096x1 ![0] bcast_S4096_S4096x1_0
    (Host.reduceAdd (expd z) (constant S_ .f32 0x00000000#32) reducesTo_S4096x8192_S4096_d1 h_S_)))
/-- The action, the index and the entropy of weights `w`. -/
def act (w : FVec F S4096x8192 .f32) (a : FVec F S8192x128 .f32) : FVec F S4096x128 .f32 :=
  Host.dotGeneral dot_S4096x8192_S8192x128_S4096x128_1_0_0_1_n_n none w a
def top (w : FVec F S4096x8192 .f32) : S4096.Idx → BitVec 32 := fun j =>
  (Host.argReduce reducer_argmax_f32_i32 w (iotaInDim S4096x8192 32 1) (constant S_ .f32 0xFF800000#32) (constantI S_ 32 0#32) reducesTo_S4096x8192_S4096_d1 h_S_ j).2
def ent (w : FVec F S4096x8192 .f32) : FVec F S_ .f32 :=
  Host.negf (Host.divf (Host.reduceAdd (Host.reduceAdd (mulf w (Host.log w)) (constant S_ .f32 0x00000000#32) reducesTo_S4096x8192_S4096_d1 h_S_)
    (constant S_ .f32 0x00000000#32) reducesTo_S4096_S_d0 h_S_) (constant S_ .f32 0x45800000#32))

variable (m : (ℓ : Loc nD τ sig) → Buf (Elt F) ℓ)

/-- The weights of the launched arguments. -/
def wOf (c : Dev nD) : FVec F S4096x8192 .f32 := wts (sim (m ((c.tc : Thread nD τ).loc main_arg0)) (m ((c.tc : Thread nD τ).loc main_arg1)))

set_option maxRecDepth 8192 in
set_option maxHeartbeats 25200000 in
/-- The run. -/
theorem run (ρ : Dev nD → PrngReg) :
    θ_run defs (onTc (τ := τ) (main (F := F))) ⟨m, fun _ => 0, ρ⟩ fun r => ∀ c : Dev nD,
      r.2.mem ((c.tc : Thread nD τ).loc main_v22) = act (wOf m c) (m ((c.tc : Thread nD τ).loc main_arg2))
      ∧ r.2.mem ((c.tc : Thread nD τ).loc main_v20) = wOf m c
      ∧ r.2.mem ((c.tc : Thread nD τ).loc main_v28) = ent (wOf m c)
      ∧ r.2.mem ((c.tc : Thread nD τ).loc main_v21) = top (wOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v22).trans (by simp only [ops, TRef.binary, TRef.nullary, TRef.quaternary, TRef.unary, TRef.toBuf, TRef.ofBuf, cast_eq]; after_results_simp <;> rfl),
      (h c main_v20).trans (by simp only [ops, TRef.binary, TRef.nullary, TRef.quaternary, TRef.unary, TRef.toBuf, TRef.ofBuf, cast_eq]; after_results_simp <;> rfl),
      (h c main_v28).trans (by simp only [ops, TRef.binary, TRef.nullary, TRef.quaternary, TRef.unary, TRef.toBuf, TRef.ofBuf, cast_eq]; after_results_simp <;> rfl),
      (h c main_v21).trans (by simp only [ops, TRef.binary, TRef.nullary, TRef.quaternary, TRef.unary, TRef.toBuf, TRef.ofBuf, cast_eq]; after_results_simp <;> rfl),
      (h c main_arg0).trans (by simp only [ops, TRef.binary, TRef.nullary, TRef.quaternary, TRef.unary, TRef.toBuf, TRef.ofBuf, cast_eq]; after_results_simp <;> rfl),
      (h c main_arg1).trans (by simp only [ops, TRef.binary, TRef.nullary, TRef.quaternary, TRef.unary, TRef.toBuf, TRef.ofBuf, cast_eq]; after_results_simp <;> rfl),
      (h c main_arg2).trans (by simp only [ops, TRef.binary, TRef.nullary, TRef.quaternary, TRef.unary, TRef.toBuf, TRef.ofBuf, cast_eq]; after_results_simp <;> rfl)⟩)
    (run_seq scopedRefs_eq scopedSems_eq defs main (fun _ => ops) main_eq (fun _ => ops_sub) m ρ)

/-- The arguments end as launched and every semaphore at zero. -/
theorem frame_main (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2.2, sem_eq_zero_of_no_sems rfl r.2⟩) (run m ρ)

end Cert.ReferenceIdeal.Proof

end
-- ==== Proof.ReferenceIdealRows.lean ====
/- The reference's values, element by element, on the extended reals. -/
module

public import proofs.«01_k».proof.Proof.ReferenceIdealRun
public import Idealize.ShloMosaic.Lib.Pointwise

@[expose] public section

set_option maxRecDepth 16384

noncomputable section

namespace Cert.ReferenceIdeal.Proof

open Cert.ReferenceIdeal.Gen
open Idealize.ShloMosaic Idealize.ShloMosaic.TcCoe

/-! ## A row's maximum -/

theorem reduces_row : S4096x8192.Reduces [1] S4096 := by decide

theorem lift_row (r : Fin 4096) (q : Fin 8192) : reduces_row.lift (ix1 r) q = ix2 r q := by
  funext a
  match a with
  | ⟨0, _⟩ => rfl
  | ⟨1, _⟩ => rfl

/-- The host's maximum over a row. -/
theorem rowMax (x : FVec Ideal S4096x8192 .f32) (init : S_.Idx → Ideal .f32) (r : Fin 4096) :
    Host.reduce FloatOps.maximumf x init reducesTo_S4096x8192_S4096_d1 h_S_ (ix1 r) = Finset.univ.fold max (init (Shape.Idx.first h_S_)) (fun q => x (ix2 r q)) := by
  refine (Host.reduce_eq_fold_single (FloatOps.maximumf (F := Ideal) (φ := .f32)) x init reducesTo_S4096x8192_S4096_d1 reduces_row h_S_ (ix1 r)).trans ?_
  refine Finset.fold_congr fun q _ => ?_
  exact congrArg x (lift_row r q)

/-! ## The float results -/

/-- The exponentials of scores less a shift of each row. -/
def shifted (z : FVec Ideal S4096x8192 .f32) (R : FVec Ideal S4096 .f32) : FVec Ideal S4096x8192 .f32 :=
  Host.exp (subf z (broadcastInDim S4096x8192 ![0, 1] bcast_S4096x1_S4096x8192_0_1 (broadcastInDim S4096x1 ![0] bcast_S4096_S4096x1_0
    (maximumf (broadcastInDim S4096 ![] bcast_S_S4096 (constant S_ .f32 0xFF800000#32)) R))))

theorem expd_eq (z) : expd (F := Ideal) z = shifted z (Host.reduce FloatOps.maximumf z (constant S_ .f32 0xFF800000#32) reducesTo_S4096x8192_S4096_d1 h_S_) := by
  unfold expd shifted; with_reducible rfl

theorem shifted_apply (z R) (r : Fin 4096) (q : Fin 8192) :
    shifted z R (ix2 r q) = Ideal.exp (z (ix2 r q) - max (Ideal.ofBits .f32 (4286578688#32 : BitVec 32)) (R (ix1 r))) := by
  pointwise [shifted]

theorem hN_apply (x : FVec Ideal S4096x1024 .f32) (r : Fin 4096) (l : Fin 1024) : hN x (ix2 r l)
    = Ideal.div (x (ix2 r l)) (max (Ideal.ofBits .f32 (730643660#32 : BitVec 32)) (Ideal.sqrt (∑ k, x (ix2 r k) * x (ix2 r k)))) := by
  pointwise [hN]
  rfl

theorem pN_apply (x : FVec Ideal S8192x1024 .f32) (r : Fin 8192) (l : Fin 1024) : pN x (ix2 r l)
    = Ideal.div (x (ix2 r l)) (max (Ideal.ofBits .f32 (730643660#32 : BitVec 32)) (Ideal.sqrt (∑ k, x (ix2 r k) * x (ix2 r k)))) := by
  pointwise [pN]
  rfl

theorem sim_apply (x : FVec Ideal S4096x1024 .f32) (y : FVec Ideal S8192x1024 .f32) (r : Fin 4096) (q : Fin 8192) :
    sim x y (ix2 r q) = ∑ k, hN x (ix2 r k) * pN y (ix2 q k) := by
  pointwise [sim]

theorem wts_apply (z : FVec Ideal S4096x8192 .f32) (r : Fin 4096) (q : Fin 8192) :
    wts z (ix2 r q) = Ideal.div (expd z (ix2 r q)) (∑ p, expd z (ix2 r p)) := by
  pointwise [wts]

theorem act_apply (w : FVec Ideal S4096x8192 .f32) (a : FVec Ideal S8192x128 .f32) (r : Fin 4096) (d : Fin 128) :
    act w a (ix2 r d) = ∑ q, w (ix2 r q) * a (ix2 q d) := by
  pointwise [act]

theorem ent_apply (w : FVec Ideal S4096x8192 .f32) :
    ent w ix0 = -Ideal.div (∑ r, ∑ q, w (ix2 r q) * Ideal.log (w (ix2 r q))) (Ideal.ofBits .f32 (1166016512#32 : BitVec 32)) := by
  pointwise [ent]

/-! ## The index -/

theorem argReduce_foldl {s t u : Shape} {axes : List (Fin s.rank)} {φ : FTy} (f : Ideal φ × BitVec 32 → Ideal φ × BitVec 32 → Ideal φ × BitVec 32)
    (x : FVec Ideal s φ) (y : s.Idx → BitVec 32) (ix : u.Idx → Ideal φ) (iy : u.Idx → BitVec 32) (h : s.ReducesTo axes t) (hu : 0 < u.numel) (j : t.Idx) :
    Host.argReduce f x y ix iy h hu j = (Host.argReduceFiber x y h j).foldl f (ix (Shape.Idx.first hu), iy (Shape.Idx.first hu)) := by
  rw [Ideal.argReduce_eq_reduce2, Host.reduce2_eq_foldl_fiber]

/-- Each row's greatest weight with its index. -/
def topPair (w : FVec Ideal S4096x8192 .f32) : S4096.Idx → Ideal .f32 × BitVec 32 :=
  Host.argReduce reducer_argmax_f32_i32 w (iotaInDim S4096x8192 32 1) (constant S_ .f32 0xFF800000#32) (constantI S_ 32 0#32) reducesTo_S4096x8192_S4096_d1 h_S_

theorem top_eq (w) : top (F := Ideal) w = fun j => (topPair w j).2 := rfl

theorem snd_of {α β γ : Type} (f : α → β) (P : α → γ × β) (h : f = fun j => (P j).2) (j : α) (v : γ × β) (hv : P j = v) : f j = v.2 := by
  subst h; subst hv; rfl

/-- The index is that of the fold over the row's pairs. -/
theorem top_foldl (w : FVec Ideal S4096x8192 .f32) (j : S4096.Idx) :
    top w j = ((Host.argReduceFiber w (iotaInDim S4096x8192 32 1) reducesTo_S4096x8192_S4096_d1 j).foldl reducer_argmax_f32_i32
      (constant (F := Ideal) S_ .f32 0xFF800000#32 (Shape.Idx.first h_S_), constantI S_ 32 0#32 (Shape.Idx.first h_S_))).2 :=
  snd_of _ _ (top_eq w) j _ (argReduce_foldl reducer_argmax_f32_i32 w (iotaInDim S4096x8192 32 1) (constant (F := Ideal) S_ .f32 0xFF800000#32) (constantI S_ 32 0#32)
    reducesTo_S4096x8192_S4096_d1 h_S_ j)

end Cert.ReferenceIdeal.Proof

end
-- ==== Proof.ReferenceIdealResult.lean ====
/- The reference's results are the weights, actions, mean entropy and first greatest weights of the scores. -/
module

public import proofs.«01_k».proof.Proof.ReferenceIdealRows
public import proofs.«01_k».proof.Proof.Scores

@[expose] public section

set_option maxRecDepth 16384

noncomputable section

namespace Cert.ReferenceIdeal.Proof

open Cert.ReferenceIdeal.Gen Cert.Attend
open Idealize.ShloMosaic Idealize.ShloMosaic.TcCoe

variable (h : FVec Ideal S4096x1024 .f32) (p : FVec Ideal S8192x1024 .f32) (a : FVec Ideal S8192x128 .f32)

/-! ## The float results -/

theorem sim_score (r : Fin 4096) (q : Fin 8192) : sim h p (ix2 r q) = ((z h p r q : ℝ) : EReal) := by
  rw [sim_apply, ← score_eq]
  unfold score
  refine Finset.sum_congr rfl fun k _ => ?_
  rw [hN_apply, pN_apply]
  rfl

/-- The greatest score of a row is a real number. -/
theorem row_real (r : Fin 4096) : ∃ M : ℝ, Host.reduce FloatOps.maximumf (sim h p) (constant (F := Ideal) S_ .f32 0xFF800000#32) reducesTo_S4096x8192_S4096_d1 h_S_ (ix1 r) = (M : EReal) := by
  obtain ⟨M, hM⟩ := fold_max_real (z h p r)
  refine ⟨M, (rowMax _ _ r).trans (Eq.trans ?_ hM)⟩
  rw [show (constant (F := Ideal) S_ .f32 0xFF800000#32 (Shape.Idx.first h_S_)) = ⊥ from ofBits_negInf]
  exact Finset.fold_congr fun q _ => sim_score h p r q

/-- The shifted exponentials, with the row's shift a real number. -/
theorem expd_real (r : Fin 4096) : ∃ M : ℝ, ∀ q, expd (sim h p) (ix2 r q) = ((Real.exp (z h p r q - M) : ℝ) : EReal) := by
  obtain ⟨M, hM⟩ := row_real h p r
  refine ⟨M, fun q => ?_⟩
  rw [expd_eq, shifted_apply, hM, ofBits_negInf, max_eq_right bot_le, sim_score, ← EReal.coe_sub, Ideal.exp_coe]

/-- The reference's weights. -/
theorem wts_weights (r : Fin 4096) (q : Fin 8192) : wts (sim h p) (ix2 r q) = weights h p r q := by
  obtain ⟨M, hM⟩ := expd_real h p r
  have hs : ∑ q, expd (sim h p) (ix2 r q) = ((∑ q, Real.exp (z h p r q - M) : ℝ) : EReal) := by
    rw [← sum_coe]
    exact Finset.sum_congr rfl fun q _ => hM q
  have h0 : (0 : ℝ) < ∑ q, Real.exp (z h p r q - M) := Finset.sum_pos (fun q _ => Real.exp_pos _) ⟨0, Finset.mem_univ _⟩
  rw [wts_apply, hs, hM, div_real _ _ (ne_of_gt h0), weight_shift]
  rfl

/-- The reference's actions. -/
theorem act_action (r : Fin 4096) (d : Fin 128) : act (wts (sim h p)) a (ix2 r d) = action h p a r d := by
  rw [act_apply]
  unfold action
  exact Finset.sum_congr rfl fun q _ => by rw [wts_weights]

/-- The reference's mean entropy. -/
theorem ent_mean : ent (wts (sim h p)) ix0 = ((meanEntropy h p : ℝ) : EReal) := by
  have hs : ∑ r, ∑ q, wts (sim h p) (ix2 r q) * Ideal.log (wts (sim h p) (ix2 r q)) = ((∑ r, - entropy (z h p r) : ℝ) : EReal) := by
    rw [← sum_coe]
    refine Finset.sum_congr rfl fun r _ => ?_
    rw [← entropy_weights, ← sum_coe]
    refine Finset.sum_congr rfl fun q _ => ?_
    rw [wts_weights]
    unfold weights
    rw [log_real _ (weight_pos _ _), EReal.coe_mul]
  rw [ent_apply, hs, ofBits_rows, div_real _ _ (by norm_num), ← EReal.coe_neg]
  unfold meanEntropy
  rw [Finset.sum_neg_distrib, neg_div, neg_neg]

/-! ## The index -/

/-- A step of the index's fold keeps one of the two pairs, and the kept pair comes no later. -/
theorem step_best (x y : Ideal .f32 × BitVec 32) :
    (reducer_argmax_f32_i32 x y = x ∧ Le y x) ∨ (reducer_argmax_f32_i32 x y = y ∧ Le x y) := by
  obtain ⟨x1, x2⟩ := x
  obtain ⟨y1, y2⟩ := y
  have key : reducer_argmax_f32_i32 (F := Ideal) (x1, x2) (y1, y2)
      = (if y1 < x1 then x1 else y1, if y1 < x1 ∨ (x1 = y1 ∧ x2.toInt < y2.toInt) then x2 else y2) := by
    by_cases h1 : y1 < x1 <;> by_cases h2 : x1 = y1 <;> by_cases h3 : x2.toInt < y2.toInt <;>
      simp [reducer_argmax_f32_i32, FloatOps.cmpf, Ideal.cmp, IntOp.ori, IntOp.andi, IntOp.cmpi, Scalar.select, BitVec.slt, h1, h2, h3]
  rw [key]
  rcases lt_trichotomy x1 y1 with e | e | e
  · refine .inr ⟨?_, .inl e⟩
    rw [if_neg (not_lt.mpr e.le), if_neg]
    rintro (h | h)
    · exact absurd h (not_lt.mpr e.le)
    · exact absurd h.1 (ne_of_lt e)
  · subst e
    by_cases h3 : x2.toInt < y2.toInt
    · refine .inl ⟨?_, .inr ⟨rfl, h3.le⟩⟩
      rw [if_neg (lt_irrefl _), if_pos (.inr ⟨rfl, h3⟩)]
    · refine .inr ⟨?_, .inr ⟨rfl, not_lt.mp h3⟩⟩
      rw [if_neg (lt_irrefl _), if_neg]
      rintro (h | h)
      · exact lt_irrefl _ h
      · exact h3 h.2
  · refine .inl ⟨?_, .inl e⟩
    rw [if_pos e, if_pos (.inl e)]

/-- The pairs of a row. -/
theorem mem_row (w : FVec Ideal S4096x8192 .f32) (r : Fin 4096) (x : Ideal .f32 × BitVec 32) :
    x ∈ Host.argReduceFiber w (iotaInDim S4096x8192 32 1) reducesTo_S4096x8192_S4096_d1 (ix1 r) ↔ ∃ q : Fin 8192, x = (w (ix2 r q), BitVec.ofNat 32 q.val) := by
  unfold Host.argReduceFiber
  rw [List.mem_map]
  constructor
  · rintro ⟨n, hn, rfl⟩
    have hd := of_decide_eq_true (List.mem_filter.mp hn).2
    rw [Shape.ReducesTo.drop_eq_drop _ reduces_row] at hd
    refine ⟨(S4096x8192.rowMajor.symm n) 1, ?_⟩
    have e : S4096x8192.rowMajor.symm n = ix2 r ((S4096x8192.rowMajor.symm n) 1) := by
      have hl := reduces_row.lift_drop (S4096x8192.rowMajor.symm n)
      rw [hd] at hl
      exact hl.symm.trans (lift_row r _)
    exact congrArg (fun i => (w i, BitVec.ofNat 32 (i 1).val)) e
  · rintro ⟨q, rfl⟩
    refine ⟨S4096x8192.rowMajor (ix2 r q), List.mem_filter.mpr ⟨List.mem_finRange _, decide_eq_true ?_⟩, ?_⟩
    · rw [Equiv.symm_apply_apply, Shape.ReducesTo.drop_eq_drop _ reduces_row, ← lift_row]
      exact reduces_row.drop_lift _ _
    · rw [Equiv.symm_apply_apply]
      rfl

/-- The reference's index. -/
theorem top_best (r : Fin 4096) : top (wts (sim h p)) (ix1 r) = BitVec.ofNat 32 (best h p r).val := by
  rw [top_foldl]
  have e0 : constant (F := Ideal) S_ .f32 0xFF800000#32 (Shape.Idx.first h_S_) = ⊥ := ofBits_negInf
  rw [e0]
  exact foldl_first (by norm_num) _ step_best _ (weights h p r) (weights_bot h p r)
    (fun x => by rw [mem_row]; simp only [wts_weights]) _ _ (best_first h p r)

end Cert.ReferenceIdeal.Proof

end
-- ==== Proof.ReferenceIdealFinal.lean ====
/- What the reference's four results hold at the end of a run, as arrays. -/
module

public import proofs.«01_k».proof.Proof.ReferenceIdealResult

@[expose] public section

set_option maxRecDepth 16384

noncomputable section

namespace Cert.ReferenceIdeal.Proof

open Cert.ReferenceIdeal.Gen Cert.Attend
open Idealize.ShloMosaic Idealize.ShloMosaic.TcCoe

variable (h : FVec Ideal S4096x1024 .f32) (p : FVec Ideal S8192x1024 .f32) (a : FVec Ideal S8192x128 .f32)

theorem eq_ix2 {n k : ℕ} (x : (⟨2, ![n, k]⟩ : Shape).Idx) : x = ix2 (x 0) (x 1) := by
  funext b
  match b with
  | ⟨0, _⟩ => rfl
  | ⟨1, _⟩ => rfl

theorem act_eq : act (wts (sim h p)) a = fun x : S4096x128.Idx => action h p a (x 0) (x 1) := funext fun x =>
  (congrArg (act (wts (sim h p)) a) (eq_ix2 x)).trans (act_action h p a (x 0) (x 1))

theorem wts_eq : wts (sim h p) = fun x : S4096x8192.Idx => weights h p (x 0) (x 1) := funext fun x =>
  (congrArg (wts (sim h p)) (eq_ix2 x)).trans (wts_weights h p (x 0) (x 1))

theorem ent_eq : ent (wts (sim h p)) = fun _ : S_.Idx => ((meanEntropy h p : ℝ) : EReal) := funext fun x =>
  (congrArg (ent (wts (sim h p))) (show x = ix0 from funext fun a => a.elim0)).trans (ent_mean h p)

theorem eq_ix1 {n : ℕ} (x : (⟨1, ![n]⟩ : Shape).Idx) : x = ix1 (x 0) := by
  funext b
  match b with
  | ⟨0, _⟩ => rfl

theorem apply_of {α β : Type} (f : α → β) {x y : α} (e : x = y) {v : β} (hv : f y = v) : f x = v := by
  subst e; exact hv

theorem index_eq : top (wts (sim h p)) = fun x : S4096.Idx => BitVec.ofNat 32 (best h p (x 0)).val := funext fun x =>
  apply_of (top (wts (sim h p))) (eq_ix1 x) (top_best h p (x 0))

variable (m : (ℓ : Loc nD τ sig) → Buf (Elt Ideal) ℓ) (ρ : Dev nD → PrngReg)

/-- The launched arrays. -/
def argH (c : Dev nD) : Arr 4096 1024 := m ((c.tc : Thread nD τ).loc main_arg0)
def argP (c : Dev nD) : Arr 8192 1024 := m ((c.tc : Thread nD τ).loc main_arg1)
def argA (c : Dev nD) : Arr 8192 128 := m ((c.tc : Thread nD τ).loc main_arg2)

/-- The results of every run. -/
theorem results : θ_run defs (onTc (τ := τ) (main (F := Ideal))) ⟨m, fun _ => 0, ρ⟩ fun r => ∀ c : Dev nD,
    r.2.mem ((c.tc : Thread nD τ).loc main_v22) = (fun x : S4096x128.Idx => action (argH m c) (argP m c) (argA m c) (x 0) (x 1))
    ∧ r.2.mem ((c.tc : Thread nD τ).loc main_v20) = (fun x : S4096x8192.Idx => weights (argH m c) (argP m c) (x 0) (x 1))
    ∧ r.2.mem ((c.tc : Thread nD τ).loc main_v28) = (fun _ : S_.Idx => ((meanEntropy (argH m c) (argP m c) : ℝ) : EReal))
    ∧ r.2.mem ((c.tc : Thread nD τ).loc main_v21) = (fun x : S4096.Idx => BitVec.ofNat 32 (best (argH m c) (argP m c) (x 0)).val)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c =>
    ⟨(h c).1.trans (act_eq _ _ _), (h c).2.1.trans (wts_eq _ _), (h c).2.2.1.trans (ent_eq _ _), (h c).2.2.2.1.trans (index_eq _ _), (h c).2.2.2.2⟩) (run m ρ)

end Cert.ReferenceIdeal.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelFrame
public import proofs.«01_k».proof.Proof.KernelIdealFrame
public import proofs.«01_k».proof.Proof.KernelIdealFinal
public import proofs.«01_k».proof.Proof.ReferenceIdealFinal
public import Idealize.ShloMosaic.Adequacy
public import Idealize.ShloMosaic.Init

@[expose] public section

noncomputable section

namespace Cert.Proof

open Idealize.ShloMosaic Idealize.SL.Sem Cert.Kernel

/-- From the same arguments the two programs end with the same actions, weights, mean entropy and indices. -/
theorem algebraic : Cert.algebraic_KernelIdeal_ReferenceIdeal (hKernelIdeal := Cert.KernelIdeal.Gen.facts) (hReferenceIdeal := Cert.ReferenceIdeal.Gen.facts) := by
  intro m g m' g' _ hargs
  have e0 : ∀ c, Cert.ReferenceIdeal.Proof.argH m' c = Cert.KernelIdeal.Proof.argH m c := fun c => (hargs c).1
  have e1 : ∀ c, Cert.ReferenceIdeal.Proof.argP m' c = Cert.KernelIdeal.Proof.argP m c := fun c => (hargs c).2.1
  have e2 : ∀ c, Cert.ReferenceIdeal.Proof.argA m' c = Cert.KernelIdeal.Proof.argA m c := fun c => (hargs c).2.2
  have hr := Cert.ReferenceIdeal.Proof.results m' g'
  simp only [e0, e1, e2] at hr
  exact ⟨_, _, _, _, Cert.KernelIdeal.Proof.results m g, hr⟩

theorem claim : Cert.Claim := ⟨Cert.Kernel.Gen.facts, Cert.KernelIdeal.Gen.facts, Cert.ReferenceIdeal.Gen.facts,
  fun m ρ _ => Cert.Kernel.Proof.frame_main m ρ, fun m ρ _ => Cert.KernelIdeal.Proof.frame_main m ρ, fun m ρ _ => Cert.ReferenceIdeal.Proof.frame_main m ρ,
  trivial, algebraic⟩

end Cert.Proof

end
